-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_features [hPre_binary_features : Cert.Pre_binary_features.Facts] (m : (ℓ : Loc Cert.KernelIdeal.nD Cert.KernelIdeal.τ Cert.KernelIdeal.sig) → Buf (Elt Ideal) ℓ) : Prop :=
  ∀ c : Dev Cert.KernelIdeal.nD,
    (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_features [hPre_binary_features : Cert.Pre_binary_features.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_binary_features [hKernelIdeal : Cert.KernelIdeal.Facts] [hPre_binary_features : Cert.Pre_binary_features.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_features m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_binary_features [hReferenceIdeal : Cert.ReferenceIdeal.Facts] [hPre_binary_features : Cert.Pre_binary_features.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_features m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_binary_features [hKernelIdeal : Cert.KernelIdeal.Facts] [hReferenceIdeal : Cert.ReferenceIdeal.Facts] [hPre_binary_features : Cert.Pre_binary_features.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_features m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v166) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_binary_features : Cert.Pre_binary_features.Facts),
    quiescent_Kernel (hKernel := hKernel)
    ∧ quiescent_KernelIdeal (hKernelIdeal := hKernelIdeal)
    ∧ quiescent_KernelIdeal_pre_binary_features (hKernelIdeal := hKernelIdeal) (hPre_binary_features := hPre_binary_features)
    ∧ quiescent_ReferenceIdeal (hReferenceIdeal := hReferenceIdeal)
    ∧ quiescent_ReferenceIdeal_pre_binary_features (hReferenceIdeal := hReferenceIdeal) (hPre_binary_features := hPre_binary_features)
    ∧ preserves_Kernel_KernelIdeal
    ∧ algebraic_KernelIdeal_ReferenceIdeal_pre_binary_features (hKernelIdeal := hKernelIdeal) (hReferenceIdeal := hReferenceIdeal) (hPre_binary_features := hPre_binary_features)
-- ==== Pre_binary_features.lean ====
abbrev S500000x78 : Shape := ⟨2, ![500000, 78]⟩
abbrev S7x4 : Shape := ⟨2, ![7, 4]⟩
abbrev S2x4 : Shape := ⟨2, ![2, 4]⟩
abbrev S8x4 : Shape := ⟨2, ![8, 4]⟩
abbrev S6x4 : Shape := ⟨2, ![6, 4]⟩
abbrev S5x4 : Shape := ⟨2, ![5, 4]⟩
abbrev S18x2x2 : Shape := ⟨3, ![18, 2, 2]⟩
abbrev S2x2 : Shape := ⟨2, ![2, 2]⟩
abbrev S4x36 : Shape := ⟨2, ![4, 36]⟩
abbrev S4 : Shape := ⟨1, ![4]⟩
abbrev S16x48 : Shape := ⟨2, ![16, 48]⟩
abbrev S16 : Shape := ⟨1, ![16]⟩
abbrev S500000x30 : Shape := ⟨2, ![500000, 30]⟩
abbrev S_ : Shape := ⟨0, ![]⟩
abbrev S1x4 : Shape := ⟨2, ![1, 4]⟩
abbrev S18x1x2 : Shape := ⟨3, ![18, 1, 2]⟩
abbrev S18x2 : Shape := ⟨2, ![18, 2]⟩
abbrev S1x2 : Shape := ⟨2, ![1, 2]⟩
abbrev S2 : Shape := ⟨1, ![2]⟩

class Facts : Prop where
  slices_S500000x78_S500000x30_0_0 : S500000x78.Slices ![0, 0] S500000x30
  bcast_S_S500000x30 : S_.BroadcastsInDim S500000x30 (![] : Fin 0 → Fin S500000x30.rank)
  slices_S7x4_S1x4_0_0 : S7x4.Slices ![0, 0] S1x4
  shapeCasts_S1x4_S4 : S1x4.ShapeCasts S4
  bcast_S_S4 : S_.BroadcastsInDim S4 (![] : Fin 0 → Fin S4.rank)
  slices_S8x4_S1x4_0_0 : S8x4.Slices ![0, 0] S1x4
  slices_S2x4_S1x4_0_0 : S2x4.Slices ![0, 0] S1x4
  slices_S6x4_S1x4_0_0 : S6x4.Slices ![0, 0] S1x4
  slices_S5x4_S1x4_0_0 : S5x4.Slices ![0, 0] S1x4
  slices_S18x2x2_S18x1x2_0_0_0 : S18x2x2.Slices ![0, 0, 0] S18x1x2
  shapeCasts_S18x1x2_S18x2 : S18x1x2.ShapeCasts S18x2
  bcast_S_S18x2 : S_.BroadcastsInDim S18x2 (![] : Fin 0 → Fin S18x2.rank)
  slices_S2x2_S1x2_0_0 : S2x2.Slices ![0, 0] S1x2
  shapeCasts_S1x2_S2 : S1x2.ShapeCasts S2
  bcast_S_S2 : S_.BroadcastsInDim S2 (![] : Fin 0 → Fin S2.rank)
  bcast_S_S4x36 : S_.BroadcastsInDim S4x36 (![] : Fin 0 → Fin S4x36.rank)

variable [Facts]

def fn_part4 {F : FTy → Type} [FloatOps F] (main_arg13 : FVec F S8x4 .f32) (main_arg14 : FVec F S4x36 .f32) (main_v5 : IVec S500000x30 1) (main_v12 : IVec S4 1) (main_v19 : IVec S4 1) (main_v26 : IVec S4 1) (main_v33 : IVec S4 1) (main_v40 : IVec S4 1) (main_v47 : IVec S18x2 1) (main_v54 : IVec S2 1) (main_v61 : IVec S2 1) (main_v68 : IVec S4 1) (main_v70 : FVec F S4 .f32) (main_v72 : IVec S4 1) (main_v73 : FVec F S4 .f32) : IVec S500000x30 1 × IVec S4 1 × IVec S4 1 × IVec S4 1 × IVec S4 1 × IVec S4 1 × IVec S18x2 1 × IVec S2 1 × IVec S2 1 × IVec S4 1 × IVec S4 1 × IVec S4 1 × IVec S4x36 1 :=
  let main_v74 : IVec S4 1 := cmpf .olt main_v70 main_v73
  let main_v75 : IVec S4 1 := andi main_v72 main_v74
  let main_v76 : FVec F S1x4 .f32 := (extractStridedSlice S1x4 ![0, 0] · slices_S8x4_S1x4_0_0) main_arg13
  let main_v77 : FVec F S4 .f32 := shapeCast S4 main_v76 shapeCasts_S1x4_S4
  let main_cst_21 : FVec F S_ .f32 := constant S_ .f32 0xFF800000#32
  let main_v78 : FVec F S4 .f32 := broadcastInDim S4 ![] bcast_S_S4 main_cst_21
  let main_v79 : IVec S4 1 := cmpf .ogt main_v77 main_v78
  let main_cst_22 : FVec F S_ .f32 := constant S_ .f32 0x7F800000#32
  let main_v80 : FVec F S4 .f32 := broadcastInDim S4 ![] bcast_S_S4 main_cst_22
  let main_v81 : IVec S4 1 := cmpf .olt main_v77 main_v80
  let main_v82 : IVec S4 1 := andi main_v79 main_v81
  let main_cst_23 : FVec F S_ .f32 := constant S_ .f32 0xFF800000#32
  let main_v83 : FVec F S4x36 .f32 := broadcastInDim S4x36 ![] bcast_S_S4x36 main_cst_23
  let main_v84 : IVec S4x36 1 := cmpf .ogt main_arg14 main_v83
  let main_cst_24 : FVec F S_ .f32 := constant S_ .f32 0x7F800000#32
  let main_v85 : FVec F S4x36 .f32 := broadcastInDim S4x36 ![] bcast_S_S4x36 main_cst_24
  let main_v86 : IVec S4x36 1 := cmpf .olt main_arg14 main_v85
  let main_v87 : IVec S4x36 1 := andi main_v84 main_v86
  (main_v5, main_v12, main_v19, main_v26, main_v33, main_v40, main_v47, main_v54, main_v61, main_v68, main_v75, main_v82, main_v87)

def fn_part3 {F : FTy → Type} [FloatOps F] (main_arg11 : FVec F S7x4 .f32) (main_arg12 : FVec F S5x4 .f32) (main_arg13 : FVec F S8x4 .f32) (main_arg14 : FVec F S4x36 .f32) (main_v5 : IVec S500000x30 1) (main_v12 : IVec S4 1) (main_v19 : IVec S4 1) (main_v26 : IVec S4 1) (main_v33 : IVec S4 1) (main_v40 : IVec S4 1) (main_v47 : IVec S18x2 1) (main_v54 : IVec S2 1) (main_v55 : FVec F S1x2 .f32) : IVec S500000x30 1 × IVec S4 1 × IVec S4 1 × IVec S4 1 × IVec S4 1 × IVec S4 1 × IVec S18x2 1 × IVec S2 1 × IVec S2 1 × IVec S4 1 × IVec S4 1 × IVec S4 1 × IVec S4x36 1 :=
  let main_v56 : FVec F S2 .f32 := shapeCast S2 main_v55 shapeCasts_S1x2_S2
  let main_cst_15 : FVec F S_ .f32 := constant S_ .f32 0xFF800000#32
  let main_v57 : FVec F S2 .f32 := broadcastInDim S2 ![] bcast_S_S2 main_cst_15
  let main_v58 : IVec S2 1 := cmpf .ogt main_v56 main_v57
  let main_cst_16 : FVec F S_ .f32 := constant S_ .f32 0x7F800000#32
  let main_v59 : FVec F S2 .f32 := broadcastInDim S2 ![] bcast_S_S2 main_cst_16
  let main_v60 : IVec S2 1 := cmpf .olt main_v56 main_v59
  let main_v61 : IVec S2 1 := andi main_v58 main_v60
  let main_v62 : FVec F S1x4 .f32 := (extractStridedSlice S1x4 ![0, 0] · slices_S7x4_S1x4_0_0) main_arg11
  let main_v63 : FVec F S4 .f32 := shapeCast S4 main_v62 shapeCasts_S1x4_S4
  let main_cst_17 : FVec F S_ .f32 := constant S_ .f32 0xFF800000#32
  let main_v64 : FVec F S4 .f32 := broadcastInDim S4 ![] bcast_S_S4 main_cst_17
  let main_v65 : IVec S4 1 := cmpf .ogt main_v63 main_v64
  let main_cst_18 : FVec F S_ .f32 := constant S_ .f32 0x7F800000#32
  let main_v66 : FVec F S4 .f32 := broadcastInDim S4 ![] bcast_S_S4 main_cst_18
  let main_v67 : IVec S4 1 := cmpf .olt main_v63 main_v66
  let main_v68 : IVec S4 1 := andi main_v65 main_v67
  let main_v69 : FVec F S1x4 .f32 := (extractStridedSlice S1x4 ![0, 0] · slices_S5x4_S1x4_0_0) main_arg12
  let main_v70 : FVec F S4 .f32 := shapeCast S4 main_v69 shapeCasts_S1x4_S4
  let main_cst_19 : FVec F S_ .f32 := constant S_ .f32 0xFF800000#32
  let main_v71 : FVec F S4 .f32 := broadcastInDim S4 ![] bcast_S_S4 main_cst_19
  let main_v72 : IVec S4 1 := cmpf .ogt main_v70 main_v71
  let main_cst_20 : FVec F S_ .f32 := constant S_ .f32 0x7F800000#32
  let main_v73 : FVec F S4 .f32 := broadcastInDim S4 ![] bcast_S_S4 main_cst_20
  fn_part4 (F := F) main_arg13 main_arg14 main_v5 main_v12 main_v19 main_v26 main_v33 main_v40 main_v47 main_v54 main_v61 main_v68 main_v70 main_v72 main_v73

def fn_part2 {F : FTy → Type} [FloatOps F] (main_arg8 : FVec F S18x2x2 .f32) (main_arg9 : FVec F S2x2 .f32) (main_arg10 : FVec F S2x2 .f32) (main_arg11 : FVec F S7x4 .f32) (main_arg12 : FVec F S5x4 .f32) (main_arg13 : FVec F S8x4 .f32) (main_arg14 : FVec F S4x36 .f32) (main_v5 : IVec S500000x30 1) (main_v12 : IVec S4 1) (main_v19 : IVec S4 1) (main_v26 : IVec S4 1) (main_v33 : IVec S4 1) (main_v35 : FVec F S4 .f32) (main_v36 : FVec F S4 .f32) : IVec S500000x30 1 × IVec S4 1 × IVec S4 1 × IVec S4 1 × IVec S4 1 × IVec S4 1 × IVec S18x2 1 × IVec S2 1 × IVec S2 1 × IVec S4 1 × IVec S4 1 × IVec S4 1 × IVec S4x36 1 :=
  let main_v37 : IVec S4 1 := cmpf .ogt main_v35 main_v36
  let main_cst_10 : FVec F S_ .f32 := constant S_ .f32 0x7F800000#32
  let main_v38 : FVec F S4 .f32 := broadcastInDim S4 ![] bcast_S_S4 main_cst_10
  let main_v39 : IVec S4 1 := cmpf .olt main_v35 main_v38
  let main_v40 : IVec S4 1 := andi main_v37 main_v39
  let main_v41 : FVec F S18x1x2 .f32 := (extractStridedSlice S18x1x2 ![0, 0, 0] · slices_S18x2x2_S18x1x2_0_0_0) main_arg8
  let main_v42 : FVec F S18x2 .f32 := shapeCast S18x2 main_v41 shapeCasts_S18x1x2_S18x2
  let main_cst_11 : FVec F S_ .f32 := constant S_ .f32 0xFF800000#32
  let main_v43 : FVec F S18x2 .f32 := broadcastInDim S18x2 ![] bcast_S_S18x2 main_cst_11
  let main_v44 : IVec S18x2 1 := cmpf .ogt main_v42 main_v43
  let main_cst_12 : FVec F S_ .f32 := constant S_ .f32 0x7F800000#32
  let main_v45 : FVec F S18x2 .f32 := broadcastInDim S18x2 ![] bcast_S_S18x2 main_cst_12
  let main_v46 : IVec S18x2 1 := cmpf .olt main_v42 main_v45
  let main_v47 : IVec S18x2 1 := andi main_v44 main_v46
  let main_v48 : FVec F S1x2 .f32 := (extractStridedSlice S1x2 ![0, 0] · slices_S2x2_S1x2_0_0) main_arg9
  let main_v49 : FVec F S2 .f32 := shapeCast S2 main_v48 shapeCasts_S1x2_S2
  let main_cst_13 : FVec F S_ .f32 := constant S_ .f32 0xFF800000#32
  let main_v50 : FVec F S2 .f32 := broadcastInDim S2 ![] bcast_S_S2 main_cst_13
  let main_v51 : IVec S2 1 := cmpf .ogt main_v49 main_v50
  let main_cst_14 : FVec F S_ .f32 := constant S_ .f32 0x7F800000#32
  let main_v52 : FVec F S2 .f32 := broadcastInDim S2 ![] bcast_S_S2 main_cst_14
  let main_v53 : IVec S2 1 := cmpf .olt main_v49 main_v52
  let main_v54 : IVec S2 1 := andi main_v51 main_v53
  let main_v55 : FVec F S1x2 .f32 := (extractStridedSlice S1x2 ![0, 0] · slices_S2x2_S1x2_0_0) main_arg10
  fn_part3 (F := F) main_arg11 main_arg12 main_arg13 main_arg14 main_v5 main_v12 main_v19 main_v26 main_v33 main_v40 main_v47 main_v54 main_v55

def fn_part1 {F : FTy → Type} [FloatOps F] (main_arg5 : FVec F S2x4 .f32) (main_arg6 : FVec F S6x4 .f32) (main_arg7 : FVec F S5x4 .f32) (main_arg8 : FVec F S18x2x2 .f32) (main_arg9 : FVec F S2x2 .f32) (main_arg10 : FVec F S2x2 .f32) (main_arg11 : FVec F S7x4 .f32) (main_arg12 : FVec F S5x4 .f32) (main_arg13 : FVec F S8x4 .f32) (main_arg14 : FVec F S4x36 .f32) (main_v5 : IVec S500000x30 1) (main_v12 : IVec S4 1) (main_v14 : FVec F S4 .f32) (main_v16 : IVec S4 1) (main_v17 : FVec F S4 .f32) : IVec S500000x30 1 × IVec S4 1 × IVec S4 1 × IVec S4 1 × IVec S4 1 × IVec S4 1 × IVec S18x2 1 × IVec S2 1 × IVec S2 1 × IVec S4 1 × IVec S4 1 × IVec S4 1 × IVec S4x36 1 :=
  let main_v18 : IVec S4 1 := cmpf .olt main_v14 main_v17
  let main_v19 : IVec S4 1 := andi main_v16 main_v18
  let main_v20 : FVec F S1x4 .f32 := (extractStridedSlice S1x4 ![0, 0] · slices_S2x4_S1x4_0_0) main_arg5
  let main_v21 : FVec F S4 .f32 := shapeCast S4 main_v20 shapeCasts_S1x4_S4
  let main_cst_5 : FVec F S_ .f32 := constant S_ .f32 0xFF800000#32
  let main_v22 : FVec F S4 .f32 := broadcastInDim S4 ![] bcast_S_S4 main_cst_5
  let main_v23 : IVec S4 1 := cmpf .ogt main_v21 main_v22
  let main_cst_6 : FVec F S_ .f32 := constant S_ .f32 0x7F800000#32
  let main_v24 : FVec F S4 .f32 := broadcastInDim S4 ![] bcast_S_S4 main_cst_6
  let main_v25 : IVec S4 1 := cmpf .olt main_v21 main_v24
  let main_v26 : IVec S4 1 := andi main_v23 main_v25
  let main_v27 : FVec F S1x4 .f32 := (extractStridedSlice S1x4 ![0, 0] · slices_S6x4_S1x4_0_0) main_arg6
  let main_v28 : FVec F S4 .f32 := shapeCast S4 main_v27 shapeCasts_S1x4_S4
  let main_cst_7 : FVec F S_ .f32 := constant S_ .f32 0xFF800000#32
  let main_v29 : FVec F S4 .f32 := broadcastInDim S4 ![] bcast_S_S4 main_cst_7
  let main_v30 : IVec S4 1 := cmpf .ogt main_v28 main_v29
  let main_cst_8 : FVec F S_ .f32 := constant S_ .f32 0x7F800000#32
  let main_v31 : FVec F S4 .f32 := broadcastInDim S4 ![] bcast_S_S4 main_cst_8
  let main_v32 : IVec S4 1 := cmpf .olt main_v28 main_v31
  let main_v33 : IVec S4 1 := andi main_v30 main_v32
  let main_v34 : FVec F S1x4 .f32 := (extractStridedSlice S1x4 ![0, 0] · slices_S5x4_S1x4_0_0) main_arg7
  let main_v35 : FVec F S4 .f32 := shapeCast S4 main_v34 shapeCasts_S1x4_S4
  let main_cst_9 : FVec F S_ .f32 := constant S_ .f32 0xFF800000#32
  let main_v36 : FVec F S4 .f32 := broadcastInDim S4 ![] bcast_S_S4 main_cst_9
  fn_part2 (F := F) main_arg8 main_arg9 main_arg10 main_arg11 main_arg12 main_arg13 main_arg14 main_v5 main_v12 main_v19 main_v26 main_v33 main_v35 main_v36

def fn {F : FTy → Type} [FloatOps F] (main_arg0 : FVec F S500000x78 .f32) (main_arg1 : FVec F S7x4 .f32) (main_arg2 : FVec F S7x4 .f32) (main_arg3 : FVec F S2x4 .f32) (main_arg4 : FVec F S8x4 .f32) (main_arg5 : FVec F S2x4 .f32) (main_arg6 : FVec F S6x4 .f32) (main_arg7 : FVec F S5x4 .f32) (main_arg8 : FVec F S18x2x2 .f32) (main_arg9 : FVec F S2x2 .f32) (main_arg10 : FVec F S2x2 .f32) (main_arg11 : FVec F S7x4 .f32) (main_arg12 : FVec F S5x4 .f32) (main_arg13 : FVec F S8x4 .f32) (main_arg14 : FVec F S4x36 .f32) (main_arg15 : FVec F S4 .f32) (main_arg16 : FVec F S16x48 .f32) (main_arg17 : FVec F S16 .f32) : IVec S500000x30 1 × IVec S4 1 × IVec S4 1 × IVec S4 1 × IVec S4 1 × IVec S4 1 × IVec S18x2 1 × IVec S2 1 × IVec S2 1 × IVec S4 1 × IVec S4 1 × IVec S4 1 × IVec S4x36 1 :=
  let main_v0 : FVec F S500000x30 .f32 := (extractStridedSlice S500000x30 ![0, 0] · slices_S500000x78_S500000x30_0_0) main_arg0
  let main_cst : FVec F S_ .f32 := constant S_ .f32 0x00000000#32
  let main_v1 : FVec F S500000x30 .f32 := broadcastInDim S500000x30 ![] bcast_S_S500000x30 main_cst
  let main_v2 : IVec S500000x30 1 := cmpf .oeq main_v0 main_v1
  let main_cst_0 : FVec F S_ .f32 := constant S_ .f32 0x3F800000#32
  let main_v3 : FVec F S500000x30 .f32 := broadcastInDim S500000x30 ![] bcast_S_S500000x30 main_cst_0
  let main_v4 : IVec S500000x30 1 := cmpf .oeq main_v0 main_v3
  let main_v5 : IVec S500000x30 1 := ori main_v2 main_v4
  let main_v6 : FVec F S1x4 .f32 := (extractStridedSlice S1x4 ![0, 0] · slices_S7x4_S1x4_0_0) main_arg2
  let main_v7 : FVec F S4 .f32 := shapeCast S4 main_v6 shapeCasts_S1x4_S4
  let main_cst_1 : FVec F S_ .f32 := constant S_ .f32 0xFF800000#32
  let main_v8 : FVec F S4 .f32 := broadcastInDim S4 ![] bcast_S_S4 main_cst_1
  let main_v9 : IVec S4 1 := cmpf .ogt main_v7 main_v8
  let main_cst_2 : FVec F S_ .f32 := constant S_ .f32 0x7F800000#32
  let main_v10 : FVec F S4 .f32 := broadcastInDim S4 ![] bcast_S_S4 main_cst_2
  let main_v11 : IVec S4 1 := cmpf .olt main_v7 main_v10
  let main_v12 : IVec S4 1 := andi main_v9 main_v11
  let main_v13 : FVec F S1x4 .f32 := (extractStridedSlice S1x4 ![0, 0] · slices_S8x4_S1x4_0_0) main_arg4
  let main_v14 : FVec F S4 .f32 := shapeCast S4 main_v13 shapeCasts_S1x4_S4
  let main_cst_3 : FVec F S_ .f32 := constant S_ .f32 0xFF800000#32
  let main_v15 : FVec F S4 .f32 := broadcastInDim S4 ![] bcast_S_S4 main_cst_3
  let main_v16 : IVec S4 1 := cmpf .ogt main_v14 main_v15
  let main_cst_4 : FVec F S_ .f32 := constant S_ .f32 0x7F800000#32
  let main_v17 : FVec F S4 .f32 := broadcastInDim S4 ![] bcast_S_S4 main_cst_4
  fn_part1 (F := F) main_arg5 main_arg6 main_arg7 main_arg8 main_arg9 main_arg10 main_arg11 main_arg12 main_arg13 main_arg14 main_v5 main_v12 main_v14 main_v16 main_v17
-- ==== Kernel.lean ====
abbrev S500000x78 : Shape := ⟨2, ![500000, 78]⟩
abbrev S7x4 : Shape := ⟨2, ![7, 4]⟩
abbrev S2x4 : Shape := ⟨2, ![2, 4]⟩
abbrev S8x4 : Shape := ⟨2, ![8, 4]⟩
abbrev S6x4 : Shape := ⟨2, ![6, 4]⟩
abbrev S5x4 : Shape := ⟨2, ![5, 4]⟩
abbrev S18x2x2 : Shape := ⟨3, ![18, 2, 2]⟩
abbrev S2x2 : Shape := ⟨2, ![2, 2]⟩
abbrev S4x36 : Shape := ⟨2, ![4, 36]⟩
abbrev S4 : Shape := ⟨1, ![4]⟩
abbrev S16x48 : Shape := ⟨2, ![16, 48]⟩
abbrev S16 : Shape := ⟨1, ![16]⟩
abbrev S_ : Shape := ⟨0, ![]⟩
abbrev S78x64 : Shape := ⟨2, ![78, 64]⟩
abbrev S64 : Shape := ⟨1, ![64]⟩
abbrev S1x4 : Shape := ⟨2, ![1, 4]⟩
abbrev S1 : Shape := ⟨1, ![1]⟩
abbrev S2 : Shape := ⟨1, ![2]⟩
abbrev S18x1x2 : Shape := ⟨3, ![18, 1, 2]⟩
abbrev S18x2 : Shape := ⟨2, ![18, 2]⟩
abbrev S36 : Shape := ⟨1, ![36]⟩
abbrev S4x18x2 : Shape := ⟨3, ![4, 18, 2]⟩
abbrev S36x4 : Shape := ⟨2, ![36, 4]⟩
abbrev S18x4 : Shape := ⟨2, ![18, 4]⟩
abbrev S1x2 : Shape := ⟨2, ![1, 2]⟩
abbrev S48x16 : Shape := ⟨2, ![48, 16]⟩
abbrev S1x64 : Shape := ⟨2, ![1, 64]⟩
abbrev S500000x64 : Shape := ⟨2, ![500000, 64]⟩
abbrev S20000x78 : Shape := ⟨2, ![20000, 78]⟩
abbrev S20000x64 : Shape := ⟨2, ![20000, 64]⟩

abbrev nBuf : Space → Nat
  | .hbm => 226
  | .vmem => 6
  | .smem => 0
  | _ => 0

abbrev hbmTy0_0 (i : Nat) : BufTy := match i % 128 with
  | 0 => ⟨S500000x78, .f32⟩
  | 1 => ⟨S7x4, .f32⟩
  | 2 => ⟨S7x4, .f32⟩
  | 3 => ⟨S2x4, .f32⟩
  | 4 => ⟨S8x4, .f32⟩
  | 5 => ⟨S2x4, .f32⟩
  | 6 => ⟨S6x4, .f32⟩
  | 7 => ⟨S5x4, .f32⟩
  | 8 => ⟨S18x2x2, .f32⟩
  | 9 => ⟨S2x2, .f32⟩
  | 10 => ⟨S2x2, .f32⟩
  | 11 => ⟨S7x4, .f32⟩
  | 12 => ⟨S5x4, .f32⟩
  | 13 => ⟨S8x4, .f32⟩
  | 14 => ⟨S4x36, .f32⟩
  | 15 => ⟨S4, .f32⟩
  | 16 => ⟨S16x48, .f32⟩
  | 17 => ⟨S16, .f32⟩
  | 18 => ⟨S_, .f32⟩
  | 19 => ⟨S78x64, .f32⟩
  | 20 => ⟨S_, .f32⟩
  | 21 => ⟨S64, .f32⟩
  | 22 => ⟨S1x4, .f32⟩
  | 23 => ⟨S4, .f32⟩
  | 24 => ⟨S_, .i32⟩
  | 25 => ⟨S1, .i32⟩
  | 26 => ⟨S64, .f32⟩
  | 27 => ⟨S1x4, .f32⟩
  | 28 => ⟨S4, .f32⟩
  | 29 => ⟨S_, .i32⟩
  | 30 => ⟨S1, .i32⟩
  | 31 => ⟨S64, .f32⟩
  | 32 => ⟨S1x4, .f32⟩
  | 33 => ⟨S4, .f32⟩
  | 34 => ⟨S1x4, .f32⟩
  | 35 => ⟨S4, .f32⟩
  | 36 => ⟨S4, .f32⟩
  | 37 => ⟨S_, .i32⟩
  | 38 => ⟨S1, .i32⟩
  | 39 => ⟨S_, .i32⟩
  | 40 => ⟨S1, .i32⟩
  | 41 => ⟨S2, .i32⟩
  | 42 => ⟨S78x64, .f32⟩
  | 43 => ⟨S1x4, .f32⟩
  | 44 => ⟨S4, .f32⟩
  | 45 => ⟨S_, .i32⟩
  | 46 => ⟨S1, .i32⟩
  | 47 => ⟨S64, .f32⟩
  | 48 => ⟨S1x4, .f32⟩
  | 49 => ⟨S4, .f32⟩
  | 50 => ⟨S_, .i32⟩
  | 51 => ⟨S1, .i32⟩
  | 52 => ⟨S64, .f32⟩
  | 53 => ⟨S1x4, .f32⟩
  | 54 => ⟨S4, .f32⟩
  | 55 => ⟨S1x4, .f32⟩
  | 56 => ⟨S4, .f32⟩
  | 57 => ⟨S4, .f32⟩
  | 58 => ⟨S_, .i32⟩
  | 59 => ⟨S1, .i32⟩
  | 60 => ⟨S_, .i32⟩
  | 61 => ⟨S1, .i32⟩
  | 62 => ⟨S2, .i32⟩
  | 63 => ⟨S78x64, .f32⟩
  | 64 => ⟨S1x4, .f32⟩
  | 65 => ⟨S4, .f32⟩
  | 66 => ⟨S_, .i32⟩
  | 67 => ⟨S1, .i32⟩
  | 68 => ⟨S64, .f32⟩
  | 69 => ⟨S1x4, .f32⟩
  | 70 => ⟨S4, .f32⟩
  | 71 => ⟨S1x4, .f32⟩
  | 72 => ⟨S4, .f32⟩
  | 73 => ⟨S4, .f32⟩
  | 74 => ⟨S_, .i32⟩
  | 75 => ⟨S1, .i32⟩
  | 76 => ⟨S_, .i32⟩
  | 77 => ⟨S1, .i32⟩
  | 78 => ⟨S2, .i32⟩
  | 79 => ⟨S78x64, .f32⟩
  | 80 => ⟨S1x4, .f32⟩
  | 81 => ⟨S4, .f32⟩
  | 82 => ⟨S_, .i32⟩
  | 83 => ⟨S1, .i32⟩
  | 84 => ⟨S64, .f32⟩
  | 85 => ⟨S1x4, .f32⟩
  | 86 => ⟨S4, .f32⟩
  | 87 => ⟨S1x4, .f32⟩
  | 88 => ⟨S4, .f32⟩
  | 89 => ⟨S4, .f32⟩
  | 90 => ⟨S_, .i32⟩
  | 91 => ⟨S1, .i32⟩
  | 92 => ⟨S_, .i32⟩
  | 93 => ⟨S1, .i32⟩
  | 94 => ⟨S2, .i32⟩
  | 95 => ⟨S78x64, .f32⟩
  | 96 => ⟨S1x4, .f32⟩
  | 97 => ⟨S4, .f32⟩
  | 98 => ⟨S_, .i32⟩
  | 99 => ⟨S1, .i32⟩
  | 100 => ⟨S64, .f32⟩
  | 101 => ⟨S1x4, .f32⟩
  | 102 => ⟨S4, .f32⟩
  | 103 => ⟨S1x4, .f32⟩
  | 104 => ⟨S4, .f32⟩
  | 105 => ⟨S4, .f32⟩
  | 106 => ⟨S_, .i32⟩
  | 107 => ⟨S1, .i32⟩
  | 108 => ⟨S_, .i32⟩
  | 109 => ⟨S1, .i32⟩
  | 110 => ⟨S2, .i32⟩
  | 111 => ⟨S78x64, .f32⟩
  | 112 => ⟨S18x1x2, .f32⟩
  | 113 => ⟨S18x2, .f32⟩
  | 114 => ⟨S36, .f32⟩
  | 115 => ⟨S18x1x2, .f32⟩
  | 116 => ⟨S18x2, .f32⟩
  | 117 => ⟨S18x1x2, .f32⟩
  | 118 => ⟨S18x2, .f32⟩
  | 119 => ⟨S18x2, .f32⟩
  | 120 => ⟨S4x18x2, .f32⟩
  | 121 => ⟨S36x4, .f32⟩
  | 122 => ⟨S4, .f32⟩
  | 123 => ⟨S4, .f32⟩
  | 124 => ⟨S_, .i32⟩
  | 125 => ⟨S1, .i32⟩
  | 126 => ⟨S64, .f32⟩
  | 127 => ⟨S18x4, .f32⟩
  | _ => ⟨S500000x78, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S78x64, .f32⟩
  | 6 => ⟨S1x2, .f32⟩
  | 7 => ⟨S2, .f32⟩
  | 8 => ⟨S_, .i32⟩
  | 9 => ⟨S1, .i32⟩
  | 10 => ⟨S64, .f32⟩
  | 11 => ⟨S1x2, .f32⟩
  | 12 => ⟨S2, .f32⟩
  | 13 => ⟨S1x2, .f32⟩
  | 14 => ⟨S2, .f32⟩
  | 15 => ⟨S2, .f32⟩
  | 16 => ⟨S_, .i32⟩
  | 17 => ⟨S1, .i32⟩
  | 18 => ⟨S_, .i32⟩
  | 19 => ⟨S1, .i32⟩
  | 20 => ⟨S2, .i32⟩
  | 21 => ⟨S78x64, .f32⟩
  | 22 => ⟨S1x2, .f32⟩
  | 23 => ⟨S2, .f32⟩
  | 24 => ⟨S_, .i32⟩
  | 25 => ⟨S1, .i32⟩
  | 26 => ⟨S64, .f32⟩
  | 27 => ⟨S1x2, .f32⟩
  | 28 => ⟨S2, .f32⟩
  | 29 => ⟨S1x2, .f32⟩
  | 30 => ⟨S2, .f32⟩
  | 31 => ⟨S2, .f32⟩
  | 32 => ⟨S_, .i32⟩
  | 33 => ⟨S1, .i32⟩
  | 34 => ⟨S_, .i32⟩
  | 35 => ⟨S1, .i32⟩
  | 36 => ⟨S2, .i32⟩
  | 37 => ⟨S78x64, .f32⟩
  | 38 => ⟨S1x4, .f32⟩
  | 39 => ⟨S4, .f32⟩
  | 40 => ⟨S_, .i32⟩
  | 41 => ⟨S1, .i32⟩
  | 42 => ⟨S64, .f32⟩
  | 43 => ⟨S1x4, .f32⟩
  | 44 => ⟨S4, .f32⟩
  | 45 => ⟨S1x4, .f32⟩
  | 46 => ⟨S4, .f32⟩
  | 47 => ⟨S4, .f32⟩
  | 48 => ⟨S_, .i32⟩
  | 49 => ⟨S1, .i32⟩
  | 50 => ⟨S_, .i32⟩
  | 51 => ⟨S1, .i32⟩
  | 52 => ⟨S2, .i32⟩
  | 53 => ⟨S78x64, .f32⟩
  | 54 => ⟨S1x4, .f32⟩
  | 55 => ⟨S4, .f32⟩
  | 56 => ⟨S_, .i32⟩
  | 57 => ⟨S1, .i32⟩
  | 58 => ⟨S64, .f32⟩
  | 59 => ⟨S1x4, .f32⟩
  | 60 => ⟨S4, .f32⟩
  | 61 => ⟨S1x4, .f32⟩
  | 62 => ⟨S4, .f32⟩
  | 63 => ⟨S4, .f32⟩
  | 64 => ⟨S_, .i32⟩
  | 65 => ⟨S1, .i32⟩
  | 66 => ⟨S_, .i32⟩
  | 67 => ⟨S1, .i32⟩
  | 68 => ⟨S2, .i32⟩
  | 69 => ⟨S78x64, .f32⟩
  | 70 => ⟨S1x4, .f32⟩
  | 71 => ⟨S4, .f32⟩
  | 72 => ⟨S_, .i32⟩
  | 73 => ⟨S1, .i32⟩
  | 74 => ⟨S64, .f32⟩
  | 75 => ⟨S1x4, .f32⟩
  | 76 => ⟨S4, .f32⟩
  | 77 => ⟨S1x4, .f32⟩
  | 78 => ⟨S4, .f32⟩
  | 79 => ⟨S4, .f32⟩
  | 80 => ⟨S_, .i32⟩
  | 81 => ⟨S1, .i32⟩
  | 82 => ⟨S_, .i32⟩
  | 83 => ⟨S1, .i32⟩
  | 84 => ⟨S2, .i32⟩
  | 85 => ⟨S78x64, .f32⟩
  | 86 => ⟨S_, .i32⟩
  | 87 => ⟨S1, .i32⟩
  | 88 => ⟨S64, .f32⟩
  | 89 => ⟨S48x16, .f32⟩
  | 90 => ⟨S_, .i32⟩
  | 91 => ⟨S1, .i32⟩
  | 92 => ⟨S_, .i32⟩
  | 93 => ⟨S1, .i32⟩
  | 94 => ⟨S2, .i32⟩
  | 95 => ⟨S78x64, .f32⟩
  | 96 => ⟨S1x64, .f32⟩
  | 97 => ⟨S500000x64, .f32⟩
  | _ => ⟨S500000x78, .f32⟩

abbrev hbmTy (i : Nat) : BufTy := match i / 128 with
  | 0 => hbmTy0_0 i
  | 1 => hbmTy0_1 i
  | _ => ⟨S500000x78, .f32⟩

abbrev bufTy : (tb : Table) → Fin (tcTables nBuf tb) → BufTy
  | .hbm, ⟨i, _⟩ => hbmTy i
  | .local _ .vmem, ⟨0, _⟩ => ⟨S20000x78, .f32⟩
  | .local _ .vmem, ⟨1, _⟩ => ⟨S20000x78, .f32⟩
  | .local _ .vmem, ⟨2, _⟩ => ⟨S78x64, .f32⟩
  | .local _ .vmem, ⟨3, _⟩ => ⟨S1x64, .f32⟩
  | .local _ .vmem, ⟨4, _⟩ => ⟨S20000x64, .f32⟩
  | .local _ .vmem, ⟨5, _⟩ => ⟨S20000x64, .f32⟩
  | _, _ => ⟨S500000x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_c_3 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_9 : Ref sig .tc := ⟨.hbm, 74, rfl⟩
abbrev main_v45 : Ref sig .tc := ⟨.hbm, 75, rfl⟩
abbrev main_c_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_c_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_15 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_17 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_18 : Ref sig .tc := ⟨.hbm, 128, rfl⟩
abbrev main_v90 : Ref sig .tc := ⟨.hbm, 129, rfl⟩
abbrev main_c_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_20 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_c_21 : Ref sig .tc := ⟨.hbm, 144, rfl⟩
abbrev main_v103 : Ref sig .tc := ⟨.hbm, 145, rfl⟩
abbrev main_c_22 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_c_23 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_c_24 : Ref sig .tc := ⟨.hbm, 160, rfl⟩
abbrev main_v116 : Ref sig .tc := ⟨.hbm, 161, rfl⟩
abbrev main_c_25 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_c_26 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_c_27 : Ref sig .tc := ⟨.hbm, 176, rfl⟩
abbrev main_v129 : Ref sig .tc := ⟨.hbm, 177, rfl⟩
abbrev main_c_28 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_c_29 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_c_30 : Ref sig .tc := ⟨.hbm, 192, rfl⟩
abbrev main_v142 : Ref sig .tc := ⟨.hbm, 193, rfl⟩
abbrev main_c_31 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_c_32 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_c_33 : Ref sig .tc := ⟨.hbm, 208, rfl⟩
abbrev main_v155 : Ref sig .tc := ⟨.hbm, 209, rfl⟩
abbrev main_c_34 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_c_35 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_c_36 : Ref sig .tc := ⟨.hbm, 218, rfl⟩
abbrev main_v162 : Ref sig .tc := ⟨.hbm, 219, rfl⟩
abbrev main_c_37 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_call0_v0 : Ref sig .tc := ⟨.hbm, 224, rfl⟩
abbrev main_v166 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x78 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S78x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S500000x78 : Shape := ⟨2, ![500000, 78]⟩
abbrev S7x4 : Shape := ⟨2, ![7, 4]⟩
abbrev S2x4 : Shape := ⟨2, ![2, 4]⟩
abbrev S8x4 : Shape := ⟨2, ![8, 4]⟩
abbrev S6x4 : Shape := ⟨2, ![6, 4]⟩
abbrev S5x4 : Shape := ⟨2, ![5, 4]⟩
abbrev S18x2x2 : Shape := ⟨3, ![18, 2, 2]⟩
abbrev S2x2 : Shape := ⟨2, ![2, 2]⟩
abbrev S4x36 : Shape := ⟨2, ![4, 36]⟩
abbrev S4 : Shape := ⟨1, ![4]⟩
abbrev S16x48 : Shape := ⟨2, ![16, 48]⟩
abbrev S16 : Shape := ⟨1, ![16]⟩
abbrev S17 : Shape := ⟨1, ![17]⟩
abbrev S500000x1 : Shape := ⟨2, ![500000, 1]⟩
abbrev S500000 : Shape := ⟨1, ![500000]⟩
abbrev S_ : Shape := ⟨0, ![]⟩
abbrev S1 : Shape := ⟨1, ![1]⟩
abbrev S1x1 : Shape := ⟨2, ![1, 1]⟩
abbrev S500000x4 : Shape := ⟨2, ![500000, 4]⟩
abbrev S500000x18 : Shape := ⟨2, ![500000, 18]⟩
abbrev S1x2x2 : Shape := ⟨3, ![1, 2, 2]⟩
abbrev S500000x2 : Shape := ⟨2, ![500000, 2]⟩
abbrev S500000x32 : Shape := ⟨2, ![500000, 32]⟩
abbrev S500000x36 : Shape := ⟨2, ![500000, 36]⟩
abbrev S36x4 : Shape := ⟨2, ![36, 4]⟩
abbrev S1x4 : Shape := ⟨2, ![1, 4]⟩
abbrev S500000x48 : Shape := ⟨2, ![500000, 48]⟩
abbrev S48x16 : Shape := ⟨2, ![48, 16]⟩
abbrev S500000x16 : Shape := ⟨2, ![500000, 16]⟩
abbrev S1x16 : Shape := ⟨2, ![1, 16]⟩
abbrev S500000x64 : Shape := ⟨2, ![500000, 64]⟩

abbrev nBuf : Space → Nat
  | .hbm => 1012
  | .vmem => 0
  | .smem => 0
  | _ => 0

abbrev hbmTy0_0 (i : Nat) : BufTy := match i % 128 with
  | 0 => ⟨S500000x78, .f32⟩
  | 1 => ⟨S7x4, .f32⟩
  | 2 => ⟨S7x4, .f32⟩
  | 3 => ⟨S2x4, .f32⟩
  | 4 => ⟨S8x4, .f32⟩
  | 5 => ⟨S2x4, .f32⟩
  | 6 => ⟨S6x4, .f32⟩
  | 7 => ⟨S5x4, .f32⟩
  | 8 => ⟨S18x2x2, .f32⟩
  | 9 => ⟨S2x2, .f32⟩
  | 10 => ⟨S2x2, .f32⟩
  | 11 => ⟨S7x4, .f32⟩
  | 12 => ⟨S5x4, .f32⟩
  | 13 => ⟨S8x4, .f32⟩
  | 14 => ⟨S4x36, .f32⟩
  | 15 => ⟨S4, .f32⟩
  | 16 => ⟨S16x48, .f32⟩
  | 17 => ⟨S16, .f32⟩
  | 18 => ⟨S17, .i32⟩
  | 19 => ⟨S500000x1, .f32⟩
  | 20 => ⟨S500000, .f32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i1⟩
  | 28 => ⟨S500000, .i1⟩
  | 29 => ⟨S_, .i32⟩
  | 30 => ⟨S_, .i32⟩
  | 31 => ⟨S500000, .i32⟩
  | 32 => ⟨S500000, .i32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000, .i32⟩
  | 42 => ⟨S_, .i32⟩
  | 43 => ⟨S_, .i32⟩
  | 44 => ⟨S_, .i32⟩
  | 45 => ⟨S500000, .i32⟩
  | 46 => ⟨S500000, .i32⟩
  | 47 => ⟨S_, .i32⟩
  | 48 => ⟨S500000, .i32⟩
  | 49 => ⟨S500000, .i32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S1, .i32⟩
  | 59 => ⟨S_, .i32⟩
  | 60 => ⟨S500000x1, .i32⟩
  | 61 => ⟨S500000x1, .i1⟩
  | 62 => ⟨S1x1, .i32⟩
  | 63 => ⟨S500000x1, .i32⟩
  | 64 => ⟨S500000x1, .i1⟩
  | 65 => ⟨S500000x1, .i1⟩
  | 66 => ⟨S_, .i1⟩
  | 67 => ⟨S500000, .i1⟩
  | 68 => ⟨S500000x4, .f32⟩
  | 69 => ⟨S500000x4, .i1⟩
  | 70 => ⟨S_, .f32⟩
  | 71 => ⟨S500000x4, .f32⟩
  | 72 => ⟨S500000x4, .f32⟩
  | 73 => ⟨S500000x1, .f32⟩
  | 74 => ⟨S500000, .f32⟩
  | 75 => ⟨S500000, .i32⟩
  | 76 => ⟨S_, .i32⟩
  | 77 => ⟨S_, .i32⟩
  | 78 => ⟨S_, .i32⟩
  | 79 => ⟨S500000, .i32⟩
  | 80 => ⟨S500000, .i32⟩
  | 81 => ⟨S_, .i32⟩
  | 82 => ⟨S500000, .i32⟩
  | 83 => ⟨S500000, .i32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S1, .i32⟩
  | 93 => ⟨S_, .i32⟩
  | 94 => ⟨S500000x1, .i32⟩
  | 95 => ⟨S500000x1, .i1⟩
  | 96 => ⟨S1x1, .i32⟩
  | 97 => ⟨S500000x1, .i32⟩
  | 98 => ⟨S500000x1, .i1⟩
  | 99 => ⟨S500000x1, .i1⟩
  | 100 => ⟨S_, .i1⟩
  | 101 => ⟨S500000, .i1⟩
  | 102 => ⟨S500000x4, .f32⟩
  | 103 => ⟨S500000x4, .i1⟩
  | 104 => ⟨S_, .f32⟩
  | 105 => ⟨S500000x4, .f32⟩
  | 106 => ⟨S500000x4, .f32⟩
  | 107 => ⟨S500000x1, .f32⟩
  | 108 => ⟨S500000, .f32⟩
  | 109 => ⟨S500000, .i32⟩
  | 110 => ⟨S_, .i32⟩
  | 111 => ⟨S500000, .i32⟩
  | 112 => ⟨S500000, .i32⟩
  | 113 => ⟨S_, .i32⟩
  | 114 => ⟨S_, .i32⟩
  | 115 => ⟨S_, .i32⟩
  | 116 => ⟨S500000, .i32⟩
  | 117 => ⟨S500000, .i32⟩
  | 118 => ⟨S_, .i32⟩
  | 119 => ⟨S500000, .i32⟩
  | 120 => ⟨S500000, .i32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S500000x78, .f32⟩

abbrev hbmTy0_1 (i : Nat) : BufTy := match i % 128 with
  | 0 => ⟨S500000x1, .i32⟩
  | 1 => ⟨S1, .i32⟩
  | 2 => ⟨S_, .i32⟩
  | 3 => ⟨S500000x1, .i32⟩
  | 4 => ⟨S500000x1, .i1⟩
  | 5 => ⟨S1x1, .i32⟩
  | 6 => ⟨S500000x1, .i32⟩
  | 7 => ⟨S500000x1, .i1⟩
  | 8 => ⟨S500000x1, .i1⟩
  | 9 => ⟨S_, .i1⟩
  | 10 => ⟨S500000, .i1⟩
  | 11 => ⟨S500000x4, .f32⟩
  | 12 => ⟨S500000x4, .i1⟩
  | 13 => ⟨S_, .f32⟩
  | 14 => ⟨S500000x4, .f32⟩
  | 15 => ⟨S500000x4, .f32⟩
  | 16 => ⟨S500000x1, .f32⟩
  | 17 => ⟨S500000, .f32⟩
  | 18 => ⟨S500000, .i32⟩
  | 19 => ⟨S_, .i32⟩
  | 20 => ⟨S_, .i32⟩
  | 21 => ⟨S_, .i32⟩
  | 22 => ⟨S500000, .i32⟩
  | 23 => ⟨S500000, .i32⟩
  | 24 => ⟨S_, .i32⟩
  | 25 => ⟨S500000, .i32⟩
  | 26 => ⟨S500000, .i32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S1, .i32⟩
  | 36 => ⟨S_, .i32⟩
  | 37 => ⟨S500000x1, .i32⟩
  | 38 => ⟨S500000x1, .i1⟩
  | 39 => ⟨S1x1, .i32⟩
  | 40 => ⟨S500000x1, .i32⟩
  | 41 => ⟨S500000x1, .i1⟩
  | 42 => ⟨S500000x1, .i1⟩
  | 43 => ⟨S_, .i1⟩
  | 44 => ⟨S500000, .i1⟩
  | 45 => ⟨S500000x4, .f32⟩
  | 46 => ⟨S500000x4, .i1⟩
  | 47 => ⟨S_, .f32⟩
  | 48 => ⟨S500000x4, .f32⟩
  | 49 => ⟨S500000x4, .f32⟩
  | 50 => ⟨S500000x1, .f32⟩
  | 51 => ⟨S500000, .f32⟩
  | 52 => ⟨S500000, .i32⟩
  | 53 => ⟨S_, .i32⟩
  | 54 => ⟨S_, .i32⟩
  | 55 => ⟨S_, .i32⟩
  | 56 => ⟨S500000, .i32⟩
  | 57 => ⟨S500000, .i32⟩
  | 58 => ⟨S_, .i32⟩
  | 59 => ⟨S500000, .i32⟩
  | 60 => ⟨S500000, .i32⟩
  | 61 => ⟨S_, .i32⟩
  | 62 => ⟨S500000, .i32⟩
  | 63 => ⟨S500000, .i1⟩
  | 64 => ⟨S_, .i32⟩
  | 65 => ⟨S500000, .i32⟩
  | 66 => ⟨S500000, .i32⟩
  | 67 => ⟨S500000, .i32⟩
  | 68 => ⟨S500000x1, .i32⟩
  | 69 => ⟨S1, .i32⟩
  | 70 => ⟨S_, .i32⟩
  | 71 => ⟨S500000x1, .i32⟩
  | 72 => ⟨S500000x1, .i1⟩
  | 73 => ⟨S1x1, .i32⟩
  | 74 => ⟨S500000x1, .i32⟩
  | 75 => ⟨S500000x1, .i1⟩
  | 76 => ⟨S500000x1, .i1⟩
  | 77 => ⟨S_, .i1⟩
  | 78 => ⟨S500000, .i1⟩
  | 79 => ⟨S500000x4, .f32⟩
  | 80 => ⟨S500000x4, .i1⟩
  | 81 => ⟨S_, .f32⟩
  | 82 => ⟨S500000x4, .f32⟩
  | 83 => ⟨S500000x4, .f32⟩
  | 84 => ⟨S500000x1, .f32⟩
  | 85 => ⟨S500000, .f32⟩
  | 86 => ⟨S500000, .i32⟩
  | 87 => ⟨S_, .i32⟩
  | 88 => ⟨S_, .i32⟩
  | 89 => ⟨S_, .i32⟩
  | 90 => ⟨S500000, .i32⟩
  | 91 => ⟨S500000, .i32⟩
  | 92 => ⟨S_, .i32⟩
  | 93 => ⟨S500000, .i32⟩
  | 94 => ⟨S500000, .i32⟩
  | 95 => ⟨S_, .i32⟩
  | 96 => ⟨S500000, .i32⟩
  | 97 => ⟨S500000, .i1⟩
  | 98 => ⟨S_, .i32⟩
  | 99 => ⟨S500000, .i32⟩
  | 100 => ⟨S500000, .i32⟩
  | 101 => ⟨S500000, .i32⟩
  | 102 => ⟨S500000x1, .i32⟩
  | 103 => ⟨S1, .i32⟩
  | 104 => ⟨S_, .i32⟩
  | 105 => ⟨S500000x1, .i32⟩
  | 106 => ⟨S500000x1, .i1⟩
  | 107 => ⟨S1x1, .i32⟩
  | 108 => ⟨S500000x1, .i32⟩
  | 109 => ⟨S500000x1, .i1⟩
  | 110 => ⟨S500000x1, .i1⟩
  | 111 => ⟨S_, .i1⟩
  | 112 => ⟨S500000, .i1⟩
  | 113 => ⟨S500000x4, .f32⟩
  | 114 => ⟨S500000x4, .i1⟩
  | 115 => ⟨S_, .f32⟩
  | 116 => ⟨S500000x4, .f32⟩
  | 117 => ⟨S500000x4, .f32⟩
  | 118 => ⟨S500000x1, .f32⟩
  | 119 => ⟨S500000, .f32⟩
  | 120 => ⟨S500000, .i32⟩
  | 121 => ⟨S_, .i32⟩
  | 122 => ⟨S_, .i32⟩
  | 123 => ⟨S_, .i32⟩
  | 124 => ⟨S500000, .i32⟩
  | 125 => ⟨S500000, .i32⟩
  | 126 => ⟨S_, .i32⟩
  | 127 => ⟨S500000, .i32⟩
  | _ => ⟨S500000x78, .f32⟩

abbrev hbmTy0_2 (i : Nat) : BufTy := match i % 128 with
  | 0 => ⟨S500000, .i32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S1, .i32⟩
  | 10 => ⟨S_, .i32⟩
  | 11 => ⟨S500000x1, .i32⟩
  | 12 => ⟨S500000x1, .i1⟩
  | 13 => ⟨S1x1, .i32⟩
  | 14 => ⟨S500000x1, .i32⟩
  | 15 => ⟨S500000x1, .i1⟩
  | 16 => ⟨S500000x1, .i1⟩
  | 17 => ⟨S_, .i1⟩
  | 18 => ⟨S500000, .i1⟩
  | 19 => ⟨S500000x4, .f32⟩
  | 20 => ⟨S500000x4, .i1⟩
  | 21 => ⟨S_, .f32⟩
  | 22 => ⟨S500000x4, .f32⟩
  | 23 => ⟨S500000x4, .f32⟩
  | 24 => ⟨S500000x18, .f32⟩
  | 25 => ⟨S500000x18, .i32⟩
  | 26 => ⟨S_, .i32⟩
  | 27 => ⟨S_, .i32⟩
  | 28 => ⟨S_, .i32⟩
  | 29 => ⟨S500000x18, .i32⟩
  | 30 => ⟨S500000x18, .i32⟩
  | 31 => ⟨S_, .i32⟩
  | 32 => ⟨S500000x18, .i32⟩
  | 33 => ⟨S500000x18, .i32⟩
  | 34 => ⟨S1x2x2, .f32⟩
  | 35 => ⟨S2x2, .f32⟩
  | 36 => ⟨S500000x1, .i32⟩
  | 37 => ⟨S500000, .i32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S1, .i32⟩
  | 47 => ⟨S_, .i32⟩
  | 48 => ⟨S500000x1, .i32⟩
  | 49 => ⟨S500000x1, .i1⟩
  | 50 => ⟨S1x1, .i32⟩
  | 51 => ⟨S500000x1, .i32⟩
  | 52 => ⟨S500000x1, .i1⟩
  | 53 => ⟨S500000x1, .i1⟩
  | 54 => ⟨S_, .i1⟩
  | 55 => ⟨S500000, .i1⟩
  | 56 => ⟨S500000x2, .f32⟩
  | 57 => ⟨S500000x2, .i1⟩
  | 58 => ⟨S_, .f32⟩
  | 59 => ⟨S500000x2, .f32⟩
  | 60 => ⟨S500000x2, .f32⟩
  | 61 => ⟨S1x2x2, .f32⟩
  | 62 => ⟨S2x2, .f32⟩
  | 63 => ⟨S500000x1, .i32⟩
  | 64 => ⟨S500000, .i32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S1, .i32⟩
  | 74 => ⟨S_, .i32⟩
  | 75 => ⟨S500000x1, .i32⟩
  | 76 => ⟨S500000x1, .i1⟩
  | 77 => ⟨S1x1, .i32⟩
  | 78 => ⟨S500000x1, .i32⟩
  | 79 => ⟨S500000x1, .i1⟩
  | 80 => ⟨S500000x1, .i1⟩
  | 81 => ⟨S_, .i1⟩
  | 82 => ⟨S500000, .i1⟩
  | 83 => ⟨S500000x2, .f32⟩
  | 84 => ⟨S500000x2, .i1⟩
  | 85 => ⟨S_, .f32⟩
  | 86 => ⟨S500000x2, .f32⟩
  | 87 => ⟨S500000x2, .f32⟩
  | 88 => ⟨S1x2x2, .f32⟩
  | 89 => ⟨S2x2, .f32⟩
  | 90 => ⟨S500000x1, .i32⟩
  | 91 => ⟨S500000, .i32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S1, .i32⟩
  | 101 => ⟨S_, .i32⟩
  | 102 => ⟨S500000x1, .i32⟩
  | 103 => ⟨S500000x1, .i1⟩
  | 104 => ⟨S1x1, .i32⟩
  | 105 => ⟨S500000x1, .i32⟩
  | 106 => ⟨S500000x1, .i1⟩
  | 107 => ⟨S500000x1, .i1⟩
  | 108 => ⟨S_, .i1⟩
  | 109 => ⟨S500000, .i1⟩
  | 110 => ⟨S500000x2, .f32⟩
  | 111 => ⟨S500000x2, .i1⟩
  | 112 => ⟨S_, .f32⟩
  | 113 => ⟨S500000x2, .f32⟩
  | 114 => ⟨S500000x2, .f32⟩
  | 115 => ⟨S1x2x2, .f32⟩
  | 116 => ⟨S2x2, .f32⟩
  | 117 => ⟨S500000x1, .i32⟩
  | 118 => ⟨S500000, .i32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S1, .i32⟩
  | _ => ⟨S500000x78, .f32⟩

abbrev hbmTy0_3 (i : Nat) : BufTy := match i % 128 with
  | 0 => ⟨S_, .i32⟩
  | 1 => ⟨S500000x1, .i32⟩
  | 2 => ⟨S500000x1, .i1⟩
  | 3 => ⟨S1x1, .i32⟩
  | 4 => ⟨S500000x1, .i32⟩
  | 5 => ⟨S500000x1, .i1⟩
  | 6 => ⟨S500000x1, .i1⟩
  | 7 => ⟨S_, .i1⟩
  | 8 => ⟨S500000, .i1⟩
  | 9 => ⟨S500000x2, .f32⟩
  | 10 => ⟨S500000x2, .i1⟩
  | 11 => ⟨S_, .f32⟩
  | 12 => ⟨S500000x2, .f32⟩
  | 13 => ⟨S500000x2, .f32⟩
  | 14 => ⟨S1x2x2, .f32⟩
  | 15 => ⟨S2x2, .f32⟩
  | 16 => ⟨S500000x1, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S1, .i32⟩
  | 27 => ⟨S_, .i32⟩
  | 28 => ⟨S500000x1, .i32⟩
  | 29 => ⟨S500000x1, .i1⟩
  | 30 => ⟨S1x1, .i32⟩
  | 31 => ⟨S500000x1, .i32⟩
  | 32 => ⟨S500000x1, .i1⟩
  | 33 => ⟨S500000x1, .i1⟩
  | 34 => ⟨S_, .i1⟩
  | 35 => ⟨S500000, .i1⟩
  | 36 => ⟨S500000x2, .f32⟩
  | 37 => ⟨S500000x2, .i1⟩
  | 38 => ⟨S_, .f32⟩
  | 39 => ⟨S500000x2, .f32⟩
  | 40 => ⟨S500000x2, .f32⟩
  | 41 => ⟨S1x2x2, .f32⟩
  | 42 => ⟨S2x2, .f32⟩
  | 43 => ⟨S500000x1, .i32⟩
  | 44 => ⟨S500000, .i32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S1, .i32⟩
  | 54 => ⟨S_, .i32⟩
  | 55 => ⟨S500000x1, .i32⟩
  | 56 => ⟨S500000x1, .i1⟩
  | 57 => ⟨S1x1, .i32⟩
  | 58 => ⟨S500000x1, .i32⟩
  | 59 => ⟨S500000x1, .i1⟩
  | 60 => ⟨S500000x1, .i1⟩
  | 61 => ⟨S_, .i1⟩
  | 62 => ⟨S500000, .i1⟩
  | 63 => ⟨S500000x2, .f32⟩
  | 64 => ⟨S500000x2, .i1⟩
  | 65 => ⟨S_, .f32⟩
  | 66 => ⟨S500000x2, .f32⟩
  | 67 => ⟨S500000x2, .f32⟩
  | 68 => ⟨S1x2x2, .f32⟩
  | 69 => ⟨S2x2, .f32⟩
  | 70 => ⟨S500000x1, .i32⟩
  | 71 => ⟨S500000, .i32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S1, .i32⟩
  | 81 => ⟨S_, .i32⟩
  | 82 => ⟨S500000x1, .i32⟩
  | 83 => ⟨S500000x1, .i1⟩
  | 84 => ⟨S1x1, .i32⟩
  | 85 => ⟨S500000x1, .i32⟩
  | 86 => ⟨S500000x1, .i1⟩
  | 87 => ⟨S500000x1, .i1⟩
  | 88 => ⟨S_, .i1⟩
  | 89 => ⟨S500000, .i1⟩
  | 90 => ⟨S500000x2, .f32⟩
  | 91 => ⟨S500000x2, .i1⟩
  | 92 => ⟨S_, .f32⟩
  | 93 => ⟨S500000x2, .f32⟩
  | 94 => ⟨S500000x2, .f32⟩
  | 95 => ⟨S1x2x2, .f32⟩
  | 96 => ⟨S2x2, .f32⟩
  | 97 => ⟨S500000x1, .i32⟩
  | 98 => ⟨S500000, .i32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S1, .i32⟩
  | 108 => ⟨S_, .i32⟩
  | 109 => ⟨S500000x1, .i32⟩
  | 110 => ⟨S500000x1, .i1⟩
  | 111 => ⟨S1x1, .i32⟩
  | 112 => ⟨S500000x1, .i32⟩
  | 113 => ⟨S500000x1, .i1⟩
  | 114 => ⟨S500000x1, .i1⟩
  | 115 => ⟨S_, .i1⟩
  | 116 => ⟨S500000, .i1⟩
  | 117 => ⟨S500000x2, .f32⟩
  | 118 => ⟨S500000x2, .i1⟩
  | 119 => ⟨S_, .f32⟩
  | 120 => ⟨S500000x2, .f32⟩
  | 121 => ⟨S500000x2, .f32⟩
  | 122 => ⟨S1x2x2, .f32⟩
  | 123 => ⟨S2x2, .f32⟩
  | 124 => ⟨S500000x1, .i32⟩
  | 125 => ⟨S500000, .i32⟩
  | 126 => ⟨S_, .i32⟩
  | 127 => ⟨S500000, .i32⟩
  | _ => ⟨S500000x78, .f32⟩

abbrev hbmTy0_4 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S1, .i32⟩
  | 7 => ⟨S_, .i32⟩
  | 8 => ⟨S500000x1, .i32⟩
  | 9 => ⟨S500000x1, .i1⟩
  | 10 => ⟨S1x1, .i32⟩
  | 11 => ⟨S500000x1, .i32⟩
  | 12 => ⟨S500000x1, .i1⟩
  | 13 => ⟨S500000x1, .i1⟩
  | 14 => ⟨S_, .i1⟩
  | 15 => ⟨S500000, .i1⟩
  | 16 => ⟨S500000x2, .f32⟩
  | 17 => ⟨S500000x2, .i1⟩
  | 18 => ⟨S_, .f32⟩
  | 19 => ⟨S500000x2, .f32⟩
  | 20 => ⟨S500000x2, .f32⟩
  | 21 => ⟨S1x2x2, .f32⟩
  | 22 => ⟨S2x2, .f32⟩
  | 23 => ⟨S500000x1, .i32⟩
  | 24 => ⟨S500000, .i32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S1, .i32⟩
  | 34 => ⟨S_, .i32⟩
  | 35 => ⟨S500000x1, .i32⟩
  | 36 => ⟨S500000x1, .i1⟩
  | 37 => ⟨S1x1, .i32⟩
  | 38 => ⟨S500000x1, .i32⟩
  | 39 => ⟨S500000x1, .i1⟩
  | 40 => ⟨S500000x1, .i1⟩
  | 41 => ⟨S_, .i1⟩
  | 42 => ⟨S500000, .i1⟩
  | 43 => ⟨S500000x2, .f32⟩
  | 44 => ⟨S500000x2, .i1⟩
  | 45 => ⟨S_, .f32⟩
  | 46 => ⟨S500000x2, .f32⟩
  | 47 => ⟨S500000x2, .f32⟩
  | 48 => ⟨S1x2x2, .f32⟩
  | 49 => ⟨S2x2, .f32⟩
  | 50 => ⟨S500000x1, .i32⟩
  | 51 => ⟨S500000, .i32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S1, .i32⟩
  | 61 => ⟨S_, .i32⟩
  | 62 => ⟨S500000x1, .i32⟩
  | 63 => ⟨S500000x1, .i1⟩
  | 64 => ⟨S1x1, .i32⟩
  | 65 => ⟨S500000x1, .i32⟩
  | 66 => ⟨S500000x1, .i1⟩
  | 67 => ⟨S500000x1, .i1⟩
  | 68 => ⟨S_, .i1⟩
  | 69 => ⟨S500000, .i1⟩
  | 70 => ⟨S500000x2, .f32⟩
  | 71 => ⟨S500000x2, .i1⟩
  | 72 => ⟨S_, .f32⟩
  | 73 => ⟨S500000x2, .f32⟩
  | 74 => ⟨S500000x2, .f32⟩
  | 75 => ⟨S1x2x2, .f32⟩
  | 76 => ⟨S2x2, .f32⟩
  | 77 => ⟨S500000x1, .i32⟩
  | 78 => ⟨S500000, .i32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S1, .i32⟩
  | 88 => ⟨S_, .i32⟩
  | 89 => ⟨S500000x1, .i32⟩
  | 90 => ⟨S500000x1, .i1⟩
  | 91 => ⟨S1x1, .i32⟩
  | 92 => ⟨S500000x1, .i32⟩
  | 93 => ⟨S500000x1, .i1⟩
  | 94 => ⟨S500000x1, .i1⟩
  | 95 => ⟨S_, .i1⟩
  | 96 => ⟨S500000, .i1⟩
  | 97 => ⟨S500000x2, .f32⟩
  | 98 => ⟨S500000x2, .i1⟩
  | 99 => ⟨S_, .f32⟩
  | 100 => ⟨S500000x2, .f32⟩
  | 101 => ⟨S500000x2, .f32⟩
  | 102 => ⟨S1x2x2, .f32⟩
  | 103 => ⟨S2x2, .f32⟩
  | 104 => ⟨S500000x1, .i32⟩
  | 105 => ⟨S500000, .i32⟩
  | 106 => ⟨S_, .i32⟩
  | 107 => ⟨S500000, .i32⟩
  | 108 => ⟨S500000, .i1⟩
  | 109 => ⟨S_, .i32⟩
  | 110 => ⟨S500000, .i32⟩
  | 111 => ⟨S500000, .i32⟩
  | 112 => ⟨S500000, .i32⟩
  | 113 => ⟨S500000x1, .i32⟩
  | 114 => ⟨S1, .i32⟩
  | 115 => ⟨S_, .i32⟩
  | 116 => ⟨S500000x1, .i32⟩
  | 117 => ⟨S500000x1, .i1⟩
  | 118 => ⟨S1x1, .i32⟩
  | 119 => ⟨S500000x1, .i32⟩
  | 120 => ⟨S500000x1, .i1⟩
  | 121 => ⟨S500000x1, .i1⟩
  | 122 => ⟨S_, .i1⟩
  | 123 => ⟨S500000, .i1⟩
  | 124 => ⟨S500000x2, .f32⟩
  | 125 => ⟨S500000x2, .i1⟩
  | 126 => ⟨S_, .f32⟩
  | 127 => ⟨S500000x2, .f32⟩
  | _ => ⟨S500000x78, .f32⟩

abbrev hbmTy0_5 (i : Nat) : BufTy := match i % 128 with
  | 0 => ⟨S500000x2, .f32⟩
  | 1 => ⟨S1x2x2, .f32⟩
  | 2 => ⟨S2x2, .f32⟩
  | 3 => ⟨S500000x1, .i32⟩
  | 4 => ⟨S500000, .i32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S1, .i32⟩
  | 14 => ⟨S_, .i32⟩
  | 15 => ⟨S500000x1, .i32⟩
  | 16 => ⟨S500000x1, .i1⟩
  | 17 => ⟨S1x1, .i32⟩
  | 18 => ⟨S500000x1, .i32⟩
  | 19 => ⟨S500000x1, .i1⟩
  | 20 => ⟨S500000x1, .i1⟩
  | 21 => ⟨S_, .i1⟩
  | 22 => ⟨S500000, .i1⟩
  | 23 => ⟨S500000x2, .f32⟩
  | 24 => ⟨S500000x2, .i1⟩
  | 25 => ⟨S_, .f32⟩
  | 26 => ⟨S500000x2, .f32⟩
  | 27 => ⟨S500000x2, .f32⟩
  | 28 => ⟨S1x2x2, .f32⟩
  | 29 => ⟨S2x2, .f32⟩
  | 30 => ⟨S500000x1, .i32⟩
  | 31 => ⟨S500000, .i32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S1, .i32⟩
  | 41 => ⟨S_, .i32⟩
  | 42 => ⟨S500000x1, .i32⟩
  | 43 => ⟨S500000x1, .i1⟩
  | 44 => ⟨S1x1, .i32⟩
  | 45 => ⟨S500000x1, .i32⟩
  | 46 => ⟨S500000x1, .i1⟩
  | 47 => ⟨S500000x1, .i1⟩
  | 48 => ⟨S_, .i1⟩
  | 49 => ⟨S500000, .i1⟩
  | 50 => ⟨S500000x2, .f32⟩
  | 51 => ⟨S500000x2, .i1⟩
  | 52 => ⟨S_, .f32⟩
  | 53 => ⟨S500000x2, .f32⟩
  | 54 => ⟨S500000x2, .f32⟩
  | 55 => ⟨S1x2x2, .f32⟩
  | 56 => ⟨S2x2, .f32⟩
  | 57 => ⟨S500000x1, .i32⟩
  | 58 => ⟨S500000, .i32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S1, .i32⟩
  | 68 => ⟨S_, .i32⟩
  | 69 => ⟨S500000x1, .i32⟩
  | 70 => ⟨S500000x1, .i1⟩
  | 71 => ⟨S1x1, .i32⟩
  | 72 => ⟨S500000x1, .i32⟩
  | 73 => ⟨S500000x1, .i1⟩
  | 74 => ⟨S500000x1, .i1⟩
  | 75 => ⟨S_, .i1⟩
  | 76 => ⟨S500000, .i1⟩
  | 77 => ⟨S500000x2, .f32⟩
  | 78 => ⟨S500000x2, .i1⟩
  | 79 => ⟨S_, .f32⟩
  | 80 => ⟨S500000x2, .f32⟩
  | 81 => ⟨S500000x2, .f32⟩
  | 82 => ⟨S1x2x2, .f32⟩
  | 83 => ⟨S2x2, .f32⟩
  | 84 => ⟨S500000x1, .i32⟩
  | 85 => ⟨S500000, .i32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S1, .i32⟩
  | 95 => ⟨S_, .i32⟩
  | 96 => ⟨S500000x1, .i32⟩
  | 97 => ⟨S500000x1, .i1⟩
  | 98 => ⟨S1x1, .i32⟩
  | 99 => ⟨S500000x1, .i32⟩
  | 100 => ⟨S500000x1, .i1⟩
  | 101 => ⟨S500000x1, .i1⟩
  | 102 => ⟨S_, .i1⟩
  | 103 => ⟨S500000, .i1⟩
  | 104 => ⟨S500000x2, .f32⟩
  | 105 => ⟨S500000x2, .i1⟩
  | 106 => ⟨S_, .f32⟩
  | 107 => ⟨S500000x2, .f32⟩
  | 108 => ⟨S500000x2, .f32⟩
  | 109 => ⟨S1x2x2, .f32⟩
  | 110 => ⟨S2x2, .f32⟩
  | 111 => ⟨S500000x1, .i32⟩
  | 112 => ⟨S500000, .i32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S1, .i32⟩
  | 122 => ⟨S_, .i32⟩
  | 123 => ⟨S500000x1, .i32⟩
  | 124 => ⟨S500000x1, .i1⟩
  | 125 => ⟨S1x1, .i32⟩
  | 126 => ⟨S500000x1, .i32⟩
  | 127 => ⟨S500000x1, .i1⟩
  | _ => ⟨S500000x78, .f32⟩

abbrev hbmTy0_6 (i : Nat) : BufTy := match i % 128 with
  | 0 => ⟨S500000x1, .i1⟩
  | 1 => ⟨S_, .i1⟩
  | 2 => ⟨S500000, .i1⟩
  | 3 => ⟨S500000x2, .f32⟩
  | 4 => ⟨S500000x2, .i1⟩
  | 5 => ⟨S_, .f32⟩
  | 6 => ⟨S500000x2, .f32⟩
  | 7 => ⟨S500000x2, .f32⟩
  | 8 => ⟨S500000x32, .f32⟩
  | 9 => ⟨S500000x4, .f32⟩
  | 10 => ⟨S500000x36, .f32⟩
  | 11 => ⟨S36x4, .f32⟩
  | 12 => ⟨S500000x4, .f32⟩
  | 13 => ⟨S1x4, .f32⟩
  | 14 => ⟨S500000x4, .f32⟩
  | 15 => ⟨S500000x4, .f32⟩
  | 16 => ⟨S500000x1, .f32⟩
  | 17 => ⟨S500000, .f32⟩
  | 18 => ⟨S500000, .i32⟩
  | 19 => ⟨S_, .i32⟩
  | 20 => ⟨S_, .i32⟩
  | 21 => ⟨S_, .i32⟩
  | 22 => ⟨S500000, .i32⟩
  | 23 => ⟨S500000, .i32⟩
  | 24 => ⟨S_, .i32⟩
  | 25 => ⟨S500000, .i32⟩
  | 26 => ⟨S500000, .i32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S1, .i32⟩
  | 36 => ⟨S_, .i32⟩
  | 37 => ⟨S500000x1, .i32⟩
  | 38 => ⟨S500000x1, .i1⟩
  | 39 => ⟨S1x1, .i32⟩
  | 40 => ⟨S500000x1, .i32⟩
  | 41 => ⟨S500000x1, .i1⟩
  | 42 => ⟨S500000x1, .i1⟩
  | 43 => ⟨S_, .i1⟩
  | 44 => ⟨S500000, .i1⟩
  | 45 => ⟨S500000x2, .f32⟩
  | 46 => ⟨S500000x2, .i1⟩
  | 47 => ⟨S_, .f32⟩
  | 48 => ⟨S500000x2, .f32⟩
  | 49 => ⟨S500000x2, .f32⟩
  | 50 => ⟨S500000x1, .f32⟩
  | 51 => ⟨S500000, .f32⟩
  | 52 => ⟨S500000, .i32⟩
  | 53 => ⟨S_, .i32⟩
  | 54 => ⟨S_, .i32⟩
  | 55 => ⟨S_, .i32⟩
  | 56 => ⟨S500000, .i32⟩
  | 57 => ⟨S500000, .i32⟩
  | 58 => ⟨S_, .i32⟩
  | 59 => ⟨S500000, .i32⟩
  | 60 => ⟨S500000, .i32⟩
  | 61 => ⟨S_, .i32⟩
  | 62 => ⟨S500000, .i32⟩
  | 63 => ⟨S500000, .i1⟩
  | 64 => ⟨S_, .i32⟩
  | 65 => ⟨S500000, .i32⟩
  | 66 => ⟨S500000, .i32⟩
  | 67 => ⟨S500000, .i32⟩
  | 68 => ⟨S500000x1, .i32⟩
  | 69 => ⟨S1, .i32⟩
  | 70 => ⟨S_, .i32⟩
  | 71 => ⟨S500000x1, .i32⟩
  | 72 => ⟨S500000x1, .i1⟩
  | 73 => ⟨S1x1, .i32⟩
  | 74 => ⟨S500000x1, .i32⟩
  | 75 => ⟨S500000x1, .i1⟩
  | 76 => ⟨S500000x1, .i1⟩
  | 77 => ⟨S_, .i1⟩
  | 78 => ⟨S500000, .i1⟩
  | 79 => ⟨S500000x2, .f32⟩
  | 80 => ⟨S500000x2, .i1⟩
  | 81 => ⟨S_, .f32⟩
  | 82 => ⟨S500000x2, .f32⟩
  | 83 => ⟨S500000x2, .f32⟩
  | 84 => ⟨S500000x1, .f32⟩
  | 85 => ⟨S500000, .f32⟩
  | 86 => ⟨S500000, .i32⟩
  | 87 => ⟨S_, .i32⟩
  | 88 => ⟨S500000, .i32⟩
  | 89 => ⟨S_, .i32⟩
  | 90 => ⟨S500000, .i32⟩
  | 91 => ⟨S500000, .i1⟩
  | 92 => ⟨S_, .i32⟩
  | 93 => ⟨S_, .i32⟩
  | 94 => ⟨S500000, .i32⟩
  | 95 => ⟨S500000, .i32⟩
  | 96 => ⟨S_, .i32⟩
  | 97 => ⟨S500000, .i32⟩
  | 98 => ⟨S500000, .i1⟩
  | 99 => ⟨S_, .i32⟩
  | 100 => ⟨S_, .i32⟩
  | 101 => ⟨S500000, .i32⟩
  | 102 => ⟨S500000, .i32⟩
  | 103 => ⟨S_, .i32⟩
  | 104 => ⟨S500000, .i32⟩
  | 105 => ⟨S500000, .i1⟩
  | 106 => ⟨S_, .i32⟩
  | 107 => ⟨S_, .i32⟩
  | 108 => ⟨S500000, .i32⟩
  | 109 => ⟨S500000, .i32⟩
  | 110 => ⟨S_, .i32⟩
  | 111 => ⟨S500000, .i32⟩
  | 112 => ⟨S500000, .i1⟩
  | 113 => ⟨S_, .i32⟩
  | 114 => ⟨S_, .i32⟩
  | 115 => ⟨S500000, .i32⟩
  | 116 => ⟨S500000, .i32⟩
  | 117 => ⟨S_, .i32⟩
  | 118 => ⟨S500000, .i32⟩
  | 119 => ⟨S500000, .i1⟩
  | 120 => ⟨S_, .i32⟩
  | 121 => ⟨S_, .i32⟩
  | 122 => ⟨S500000, .i32⟩
  | 123 => ⟨S500000, .i32⟩
  | 124 => ⟨S_, .i32⟩
  | 125 => ⟨S500000, .i32⟩
  | 126 => ⟨S500000, .i1⟩
  | 127 => ⟨S_, .i32⟩
  | _ => ⟨S500000x78, .f32⟩

abbrev hbmTy0_7 (i : Nat) : BufTy := match i % 128 with
  | 0 => ⟨S_, .i32⟩
  | 1 => ⟨S500000, .i32⟩
  | 2 => ⟨S500000, .i32⟩
  | 3 => ⟨S_, .i32⟩
  | 4 => ⟨S500000, .i32⟩
  | 5 => ⟨S500000, .i1⟩
  | 6 => ⟨S_, .i32⟩
  | 7 => ⟨S_, .i32⟩
  | 8 => ⟨S500000, .i32⟩
  | 9 => ⟨S500000, .i32⟩
  | 10 => ⟨S_, .i32⟩
  | 11 => ⟨S_, .i32⟩
  | 12 => ⟨S_, .i32⟩
  | 13 => ⟨S500000, .i32⟩
  | 14 => ⟨S500000, .i32⟩
  | 15 => ⟨S_, .i32⟩
  | 16 => ⟨S500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S1, .i32⟩
  | 27 => ⟨S_, .i32⟩
  | 28 => ⟨S500000x1, .i32⟩
  | 29 => ⟨S500000x1, .i1⟩
  | 30 => ⟨S1x1, .i32⟩
  | 31 => ⟨S500000x1, .i32⟩
  | 32 => ⟨S500000x1, .i1⟩
  | 33 => ⟨S500000x1, .i1⟩
  | 34 => ⟨S_, .i1⟩
  | 35 => ⟨S500000, .i1⟩
  | 36 => ⟨S500000x4, .f32⟩
  | 37 => ⟨S500000x4, .i1⟩
  | 38 => ⟨S_, .f32⟩
  | 39 => ⟨S500000x4, .f32⟩
  | 40 => ⟨S500000x4, .f32⟩
  | 41 => ⟨S500000x1, .f32⟩
  | 42 => ⟨S500000, .f32⟩
  | 43 => ⟨S500000, .i32⟩
  | 44 => ⟨S_, .i32⟩
  | 45 => ⟨S_, .i32⟩
  | 46 => ⟨S_, .i32⟩
  | 47 => ⟨S500000, .i32⟩
  | 48 => ⟨S500000, .i32⟩
  | 49 => ⟨S_, .i32⟩
  | 50 => ⟨S500000, .i32⟩
  | 51 => ⟨S500000, .i32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S1, .i32⟩
  | 61 => ⟨S_, .i32⟩
  | 62 => ⟨S500000x1, .i32⟩
  | 63 => ⟨S500000x1, .i1⟩
  | 64 => ⟨S1x1, .i32⟩
  | 65 => ⟨S500000x1, .i32⟩
  | 66 => ⟨S500000x1, .i1⟩
  | 67 => ⟨S500000x1, .i1⟩
  | 68 => ⟨S_, .i1⟩
  | 69 => ⟨S500000, .i1⟩
  | 70 => ⟨S500000x4, .f32⟩
  | 71 => ⟨S500000x4, .i1⟩
  | 72 => ⟨S_, .f32⟩
  | 73 => ⟨S500000x4, .f32⟩
  | 74 => ⟨S500000x4, .f32⟩
  | 75 => ⟨S500000x1, .f32⟩
  | 76 => ⟨S500000, .f32⟩
  | 77 => ⟨S500000, .i32⟩
  | 78 => ⟨S_, .i32⟩
  | 79 => ⟨S_, .i32⟩
  | 80 => ⟨S_, .i32⟩
  | 81 => ⟨S500000, .i32⟩
  | 82 => ⟨S500000, .i32⟩
  | 83 => ⟨S_, .i32⟩
  | 84 => ⟨S500000, .i32⟩
  | 85 => ⟨S500000, .i32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S1, .i32⟩
  | 95 => ⟨S_, .i32⟩
  | 96 => ⟨S500000x1, .i32⟩
  | 97 => ⟨S500000x1, .i1⟩
  | 98 => ⟨S1x1, .i32⟩
  | 99 => ⟨S500000x1, .i32⟩
  | 100 => ⟨S500000x1, .i1⟩
  | 101 => ⟨S500000x1, .i1⟩
  | 102 => ⟨S_, .i1⟩
  | 103 => ⟨S500000, .i1⟩
  | 104 => ⟨S500000x4, .f32⟩
  | 105 => ⟨S500000x4, .i1⟩
  | 106 => ⟨S_, .f32⟩
  | 107 => ⟨S500000x4, .f32⟩
  | 108 => ⟨S500000x4, .f32⟩
  | 109 => ⟨S500000x48, .f32⟩
  | 110 => ⟨S48x16, .f32⟩
  | 111 => ⟨S500000x16, .f32⟩
  | 112 => ⟨S1x16, .f32⟩
  | 113 => ⟨S500000x16, .f32⟩
  | 114 => ⟨S500000x16, .f32⟩
  | 115 => ⟨S500000x64, .f32⟩
  | _ => ⟨S500000x78, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S500000x78, .f32⟩

abbrev bufTy : (tb : Table) → Fin (tcTables nBuf tb) → BufTy
  | .hbm, ⟨i, _⟩ => hbmTy i
  | _, _ => ⟨S500000x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_2 : Ref sig .tc := ⟨.hbm, 29, rfl⟩
abbrev main_call0_v0 : Ref sig .tc := ⟨.hbm, 30, rfl⟩
abbrev main_call0_v1 : Ref sig .tc := ⟨.hbm, 31, rfl⟩
abbrev main_v8 : Ref sig .tc := ⟨.hbm, 32, rfl⟩
abbrev main_c_3 : Ref sig .tc := ⟨.hbm, 33, rfl⟩
abbrev main_v9 : Ref sig .tc := ⟨.hbm, 34, rfl⟩
abbrev main_v10 : Ref sig .tc := ⟨.hbm, 35, rfl⟩
abbrev main_c_4 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_5 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v16 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_c_7 : Ref sig .tc := ⟨.hbm, 76, rfl⟩
abbrev main_c_8 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v21 : Ref sig .tc := ⟨.hbm, 83, rfl⟩
abbrev main_call4_c : Ref sig .tc := ⟨.hbm, 84, rfl⟩
abbrev main_call4_v0 : Ref sig .tc := ⟨.hbm, 85, rfl⟩
abbrev main_call4_v1 : Ref sig .tc := ⟨.hbm, 86, rfl⟩
abbrev main_call4_c_0 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_v5 : Ref sig .tc := ⟨.hbm, 91, rfl⟩
abbrev main_call4_c_1 : Ref sig .tc := ⟨.hbm, 92, rfl⟩
abbrev main_call4_c_2 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_c_3 : Ref sig .tc := ⟨.hbm, 100, rfl⟩
abbrev main_call4_v12 : Ref sig .tc := ⟨.hbm, 101, rfl⟩
abbrev main_call4_v13 : Ref sig .tc := ⟨.hbm, 102, rfl⟩
abbrev main_call4_v14 : Ref sig .tc := ⟨.hbm, 103, rfl⟩
abbrev main_call4_cst : Ref sig .tc := ⟨.hbm, 104, rfl⟩
abbrev main_call4_v15 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_c_9 : Ref sig .tc := ⟨.hbm, 110, rfl⟩
abbrev main_v26 : Ref sig .tc := ⟨.hbm, 111, rfl⟩
abbrev main_v27 : Ref sig .tc := ⟨.hbm, 112, rfl⟩
abbrev main_c_10 : Ref sig .tc := ⟨.hbm, 113, rfl⟩
abbrev main_c_11 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_v28 : Ref sig .tc := ⟨.hbm, 120, rfl⟩
abbrev main_call6_c : Ref sig .tc := ⟨.hbm, 121, rfl⟩
abbrev main_call6_v0 : Ref sig .tc := ⟨.hbm, 122, rfl⟩
abbrev main_call6_v1 : Ref sig .tc := ⟨.hbm, 123, rfl⟩
abbrev main_call6_c_0 : Ref sig .tc := ⟨.hbm, 124, rfl⟩
abbrev main_call6_v2 : Ref sig .tc := ⟨.hbm, 125, rfl⟩
abbrev main_call6_v3 : Ref sig .tc := ⟨.hbm, 126, rfl⟩
abbrev main_call6_v4 : Ref sig .tc := ⟨.hbm, 127, rfl⟩
abbrev main_call6_v5 : Ref sig .tc := ⟨.hbm, 128, rfl⟩
abbrev main_call6_c_1 : Ref sig .tc := ⟨.hbm, 129, rfl⟩
abbrev main_call6_c_2 : Ref sig .tc := ⟨.hbm, 130, rfl⟩
abbrev main_call6_v6 : Ref sig .tc := ⟨.hbm, 131, rfl⟩
abbrev main_call6_v7 : Ref sig .tc := ⟨.hbm, 132, rfl⟩
abbrev main_call6_v8 : Ref sig .tc := ⟨.hbm, 133, rfl⟩
abbrev main_call6_v9 : Ref sig .tc := ⟨.hbm, 134, rfl⟩
abbrev main_call6_v10 : Ref sig .tc := ⟨.hbm, 135, rfl⟩
abbrev main_call6_v11 : Ref sig .tc := ⟨.hbm, 136, rfl⟩
abbrev main_call6_c_3 : Ref sig .tc := ⟨.hbm, 137, rfl⟩
abbrev main_call6_v12 : Ref sig .tc := ⟨.hbm, 138, rfl⟩
abbrev main_call6_v13 : Ref sig .tc := ⟨.hbm, 139, rfl⟩
abbrev main_call6_v14 : Ref sig .tc := ⟨.hbm, 140, rfl⟩
abbrev main_call6_cst : Ref sig .tc := ⟨.hbm, 141, rfl⟩
abbrev main_call6_v15 : Ref sig .tc := ⟨.hbm, 142, rfl⟩
abbrev main_v29 : Ref sig .tc := ⟨.hbm, 143, rfl⟩
abbrev main_v30 : Ref sig .tc := ⟨.hbm, 144, rfl⟩
abbrev main_v31 : Ref sig .tc := ⟨.hbm, 145, rfl⟩
abbrev main_v32 : Ref sig .tc := ⟨.hbm, 146, rfl⟩
abbrev main_c_12 : Ref sig .tc := ⟨.hbm, 147, rfl⟩
abbrev main_c_13 : Ref sig .tc := ⟨.hbm, 148, rfl⟩
abbrev main_call7_v0 : Ref sig .tc := ⟨.hbm, 149, rfl⟩
abbrev main_call7_v1 : Ref sig .tc := ⟨.hbm, 150, rfl⟩
abbrev main_call7_v2 : Ref sig .tc := ⟨.hbm, 151, rfl⟩
abbrev main_call7_v3 : Ref sig .tc := ⟨.hbm, 152, rfl⟩
abbrev main_call7_v4 : Ref sig .tc := ⟨.hbm, 153, rfl⟩
abbrev main_v33 : Ref sig .tc := ⟨.hbm, 154, rfl⟩
abbrev main_call8_c : Ref sig .tc := ⟨.hbm, 155, rfl⟩
abbrev main_call8_v0 : Ref sig .tc := ⟨.hbm, 156, rfl⟩
abbrev main_call8_v1 : Ref sig .tc := ⟨.hbm, 157, rfl⟩
abbrev main_call8_c_0 : Ref sig .tc := ⟨.hbm, 158, rfl⟩
abbrev main_call8_v2 : Ref sig .tc := ⟨.hbm, 159, rfl⟩
abbrev main_call8_v3 : Ref sig .tc := ⟨.hbm, 160, rfl⟩
abbrev main_call8_v4 : Ref sig .tc := ⟨.hbm, 161, rfl⟩
abbrev main_call8_v5 : Ref sig .tc := ⟨.hbm, 162, rfl⟩
abbrev main_call8_c_1 : Ref sig .tc := ⟨.hbm, 163, rfl⟩
abbrev main_call8_c_2 : Ref sig .tc := ⟨.hbm, 164, rfl⟩
abbrev main_call8_v6 : Ref sig .tc := ⟨.hbm, 165, rfl⟩
abbrev main_call8_v7 : Ref sig .tc := ⟨.hbm, 166, rfl⟩
abbrev main_call8_v8 : Ref sig .tc := ⟨.hbm, 167, rfl⟩
abbrev main_call8_v9 : Ref sig .tc := ⟨.hbm, 168, rfl⟩
abbrev main_call8_v10 : Ref sig .tc := ⟨.hbm, 169, rfl⟩
abbrev main_call8_v11 : Ref sig .tc := ⟨.hbm, 170, rfl⟩
abbrev main_call8_c_3 : Ref sig .tc := ⟨.hbm, 171, rfl⟩
abbrev main_call8_v12 : Ref sig .tc := ⟨.hbm, 172, rfl⟩
abbrev main_call8_v13 : Ref sig .tc := ⟨.hbm, 173, rfl⟩
abbrev main_call8_v14 : Ref sig .tc := ⟨.hbm, 174, rfl⟩
abbrev main_call8_cst : Ref sig .tc := ⟨.hbm, 175, rfl⟩
abbrev main_call8_v15 : Ref sig .tc := ⟨.hbm, 176, rfl⟩
abbrev main_v34 : Ref sig .tc := ⟨.hbm, 177, rfl⟩
abbrev main_v35 : Ref sig .tc := ⟨.hbm, 178, rfl⟩
abbrev main_v36 : Ref sig .tc := ⟨.hbm, 179, rfl⟩
abbrev main_v37 : Ref sig .tc := ⟨.hbm, 180, rfl⟩
abbrev main_c_14 : Ref sig .tc := ⟨.hbm, 181, rfl⟩
abbrev main_c_15 : Ref sig .tc := ⟨.hbm, 182, rfl⟩
abbrev main_call9_v0 : Ref sig .tc := ⟨.hbm, 183, rfl⟩
abbrev main_call9_v1 : Ref sig .tc := ⟨.hbm, 184, rfl⟩
abbrev main_call9_v2 : Ref sig .tc := ⟨.hbm, 185, rfl⟩
abbrev main_call9_v3 : Ref sig .tc := ⟨.hbm, 186, rfl⟩
abbrev main_call9_v4 : Ref sig .tc := ⟨.hbm, 187, rfl⟩
abbrev main_v38 : Ref sig .tc := ⟨.hbm, 188, rfl⟩
abbrev main_call10_c : Ref sig .tc := ⟨.hbm, 189, rfl⟩
abbrev main_call10_v0 : Ref sig .tc := ⟨.hbm, 190, rfl⟩
abbrev main_call10_v1 : Ref sig .tc := ⟨.hbm, 191, rfl⟩
abbrev main_call10_c_0 : Ref sig .tc := ⟨.hbm, 192, rfl⟩
abbrev main_call10_v2 : Ref sig .tc := ⟨.hbm, 193, rfl⟩
abbrev main_call10_v3 : Ref sig .tc := ⟨.hbm, 194, rfl⟩
abbrev main_call10_v4 : Ref sig .tc := ⟨.hbm, 195, rfl⟩
abbrev main_call10_v5 : Ref sig .tc := ⟨.hbm, 196, rfl⟩
abbrev main_call10_c_1 : Ref sig .tc := ⟨.hbm, 197, rfl⟩
abbrev main_call10_c_2 : Ref sig .tc := ⟨.hbm, 198, rfl⟩
abbrev main_call10_v6 : Ref sig .tc := ⟨.hbm, 199, rfl⟩
abbrev main_call10_v7 : Ref sig .tc := ⟨.hbm, 200, rfl⟩
abbrev main_call10_v8 : Ref sig .tc := ⟨.hbm, 201, rfl⟩
abbrev main_call10_v9 : Ref sig .tc := ⟨.hbm, 202, rfl⟩
abbrev main_call10_v10 : Ref sig .tc := ⟨.hbm, 203, rfl⟩
abbrev main_call10_v11 : Ref sig .tc := ⟨.hbm, 204, rfl⟩
abbrev main_call10_c_3 : Ref sig .tc := ⟨.hbm, 205, rfl⟩
abbrev main_call10_v12 : Ref sig .tc := ⟨.hbm, 206, rfl⟩
abbrev main_call10_v13 : Ref sig .tc := ⟨.hbm, 207, rfl⟩
abbrev main_call10_v14 : Ref sig .tc := ⟨.hbm, 208, rfl⟩
abbrev main_call10_cst : Ref sig .tc := ⟨.hbm, 209, rfl⟩
abbrev main_call10_v15 : Ref sig .tc := ⟨.hbm, 210, rfl⟩
abbrev main_v39 : Ref sig .tc := ⟨.hbm, 211, rfl⟩
abbrev main_v40 : Ref sig .tc := ⟨.hbm, 212, rfl⟩
abbrev main_v41 : Ref sig .tc := ⟨.hbm, 213, rfl⟩
abbrev main_v42 : Ref sig .tc := ⟨.hbm, 214, rfl⟩
abbrev main_c_16 : Ref sig .tc := ⟨.hbm, 215, rfl⟩
abbrev main_c_17 : Ref sig .tc := ⟨.hbm, 216, rfl⟩
abbrev main_call11_v0 : Ref sig .tc := ⟨.hbm, 217, rfl⟩
abbrev main_call11_v1 : Ref sig .tc := ⟨.hbm, 218, rfl⟩
abbrev main_call11_v2 : Ref sig .tc := ⟨.hbm, 219, rfl⟩
abbrev main_call11_v3 : Ref sig .tc := ⟨.hbm, 220, rfl⟩
abbrev main_call11_v4 : Ref sig .tc := ⟨.hbm, 221, rfl⟩
abbrev main_v43 : Ref sig .tc := ⟨.hbm, 222, rfl⟩
abbrev main_call12_c : Ref sig .tc := ⟨.hbm, 223, rfl⟩
abbrev main_call12_v0 : Ref sig .tc := ⟨.hbm, 224, rfl⟩
abbrev main_call12_v1 : Ref sig .tc := ⟨.hbm, 225, rfl⟩
abbrev main_call12_c_0 : Ref sig .tc := ⟨.hbm, 226, rfl⟩
abbrev main_call12_v2 : Ref sig .tc := ⟨.hbm, 227, rfl⟩
abbrev main_call12_v3 : Ref sig .tc := ⟨.hbm, 228, rfl⟩
abbrev main_call12_v4 : Ref sig .tc := ⟨.hbm, 229, rfl⟩
abbrev main_call12_v5 : Ref sig .tc := ⟨.hbm, 230, rfl⟩
abbrev main_call12_c_1 : Ref sig .tc := ⟨.hbm, 231, rfl⟩
abbrev main_call12_c_2 : Ref sig .tc := ⟨.hbm, 232, rfl⟩
abbrev main_call12_v6 : Ref sig .tc := ⟨.hbm, 233, rfl⟩
abbrev main_call12_v7 : Ref sig .tc := ⟨.hbm, 234, rfl⟩
abbrev main_call12_v8 : Ref sig .tc := ⟨.hbm, 235, rfl⟩
abbrev main_call12_v9 : Ref sig .tc := ⟨.hbm, 236, rfl⟩
abbrev main_call12_v10 : Ref sig .tc := ⟨.hbm, 237, rfl⟩
abbrev main_call12_v11 : Ref sig .tc := ⟨.hbm, 238, rfl⟩
abbrev main_call12_c_3 : Ref sig .tc := ⟨.hbm, 239, rfl⟩
abbrev main_call12_v12 : Ref sig .tc := ⟨.hbm, 240, rfl⟩
abbrev main_call12_v13 : Ref sig .tc := ⟨.hbm, 241, rfl⟩
abbrev main_call12_v14 : Ref sig .tc := ⟨.hbm, 242, rfl⟩
abbrev main_call12_cst : Ref sig .tc := ⟨.hbm, 243, rfl⟩
abbrev main_call12_v15 : Ref sig .tc := ⟨.hbm, 244, rfl⟩
abbrev main_v44 : Ref sig .tc := ⟨.hbm, 245, rfl⟩
abbrev main_v45 : Ref sig .tc := ⟨.hbm, 246, rfl⟩
abbrev main_v46 : Ref sig .tc := ⟨.hbm, 247, rfl⟩
abbrev main_v47 : Ref sig .tc := ⟨.hbm, 248, rfl⟩
abbrev main_c_18 : Ref sig .tc := ⟨.hbm, 249, rfl⟩
abbrev main_c_19 : Ref sig .tc := ⟨.hbm, 250, rfl⟩
abbrev main_call13_v0 : Ref sig .tc := ⟨.hbm, 251, rfl⟩
abbrev main_call13_v1 : Ref sig .tc := ⟨.hbm, 252, rfl⟩
abbrev main_call13_v2 : Ref sig .tc := ⟨.hbm, 253, rfl⟩
abbrev main_call13_v3 : Ref sig .tc := ⟨.hbm, 254, rfl⟩
abbrev main_call13_v4 : Ref sig .tc := ⟨.hbm, 255, rfl⟩
abbrev main_v48 : Ref sig .tc := ⟨.hbm, 256, rfl⟩
abbrev main_call14_c : Ref sig .tc := ⟨.hbm, 257, rfl⟩
abbrev main_call14_v0 : Ref sig .tc := ⟨.hbm, 258, rfl⟩
abbrev main_call14_v1 : Ref sig .tc := ⟨.hbm, 259, rfl⟩
abbrev main_call14_c_0 : Ref sig .tc := ⟨.hbm, 260, rfl⟩
abbrev main_call14_v2 : Ref sig .tc := ⟨.hbm, 261, rfl⟩
abbrev main_call14_v3 : Ref sig .tc := ⟨.hbm, 262, rfl⟩
abbrev main_call14_v4 : Ref sig .tc := ⟨.hbm, 263, rfl⟩
abbrev main_call14_v5 : Ref sig .tc := ⟨.hbm, 264, rfl⟩
abbrev main_call14_c_1 : Ref sig .tc := ⟨.hbm, 265, rfl⟩
abbrev main_call14_c_2 : Ref sig .tc := ⟨.hbm, 266, rfl⟩
abbrev main_call14_v6 : Ref sig .tc := ⟨.hbm, 267, rfl⟩
abbrev main_call14_v7 : Ref sig .tc := ⟨.hbm, 268, rfl⟩
abbrev main_call14_v8 : Ref sig .tc := ⟨.hbm, 269, rfl⟩
abbrev main_call14_v9 : Ref sig .tc := ⟨.hbm, 270, rfl⟩
abbrev main_call14_v10 : Ref sig .tc := ⟨.hbm, 271, rfl⟩
abbrev main_call14_v11 : Ref sig .tc := ⟨.hbm, 272, rfl⟩
abbrev main_call14_c_3 : Ref sig .tc := ⟨.hbm, 273, rfl⟩
abbrev main_call14_v12 : Ref sig .tc := ⟨.hbm, 274, rfl⟩
abbrev main_call14_v13 : Ref sig .tc := ⟨.hbm, 275, rfl⟩
abbrev main_call14_v14 : Ref sig .tc := ⟨.hbm, 276, rfl⟩
abbrev main_call14_cst : Ref sig .tc := ⟨.hbm, 277, rfl⟩
abbrev main_call14_v15 : Ref sig .tc := ⟨.hbm, 278, rfl⟩
abbrev main_v49 : Ref sig .tc := ⟨.hbm, 279, rfl⟩
abbrev main_v50 : Ref sig .tc := ⟨.hbm, 280, rfl⟩
abbrev main_v51 : Ref sig .tc := ⟨.hbm, 281, rfl⟩
abbrev main_c_20 : Ref sig .tc := ⟨.hbm, 282, rfl⟩
abbrev main_c_21 : Ref sig .tc := ⟨.hbm, 283, rfl⟩
abbrev main_call15_v0 : Ref sig .tc := ⟨.hbm, 284, rfl⟩
abbrev main_call15_v1 : Ref sig .tc := ⟨.hbm, 285, rfl⟩
abbrev main_call15_v2 : Ref sig .tc := ⟨.hbm, 286, rfl⟩
abbrev main_call15_v3 : Ref sig .tc := ⟨.hbm, 287, rfl⟩
abbrev main_call15_v4 : Ref sig .tc := ⟨.hbm, 288, rfl⟩
abbrev main_v52 : Ref sig .tc := ⟨.hbm, 289, rfl⟩
abbrev main_v53 : Ref sig .tc := ⟨.hbm, 290, rfl⟩
abbrev main_v54 : Ref sig .tc := ⟨.hbm, 291, rfl⟩
abbrev main_v55 : Ref sig .tc := ⟨.hbm, 292, rfl⟩
abbrev main_v56 : Ref sig .tc := ⟨.hbm, 293, rfl⟩
abbrev main_call16_c : Ref sig .tc := ⟨.hbm, 294, rfl⟩
abbrev main_call16_v0 : Ref sig .tc := ⟨.hbm, 295, rfl⟩
abbrev main_call16_v1 : Ref sig .tc := ⟨.hbm, 296, rfl⟩
abbrev main_call16_c_0 : Ref sig .tc := ⟨.hbm, 297, rfl⟩
abbrev main_call16_v2 : Ref sig .tc := ⟨.hbm, 298, rfl⟩
abbrev main_call16_v3 : Ref sig .tc := ⟨.hbm, 299, rfl⟩
abbrev main_call16_v4 : Ref sig .tc := ⟨.hbm, 300, rfl⟩
abbrev main_call16_v5 : Ref sig .tc := ⟨.hbm, 301, rfl⟩
abbrev main_call16_c_1 : Ref sig .tc := ⟨.hbm, 302, rfl⟩
abbrev main_call16_c_2 : Ref sig .tc := ⟨.hbm, 303, rfl⟩
abbrev main_call16_v6 : Ref sig .tc := ⟨.hbm, 304, rfl⟩
abbrev main_call16_v7 : Ref sig .tc := ⟨.hbm, 305, rfl⟩
abbrev main_call16_v8 : Ref sig .tc := ⟨.hbm, 306, rfl⟩
abbrev main_call16_v9 : Ref sig .tc := ⟨.hbm, 307, rfl⟩
abbrev main_call16_v10 : Ref sig .tc := ⟨.hbm, 308, rfl⟩
abbrev main_call16_v11 : Ref sig .tc := ⟨.hbm, 309, rfl⟩
abbrev main_call16_c_3 : Ref sig .tc := ⟨.hbm, 310, rfl⟩
abbrev main_call16_v12 : Ref sig .tc := ⟨.hbm, 311, rfl⟩
abbrev main_call16_v13 : Ref sig .tc := ⟨.hbm, 312, rfl⟩
abbrev main_call16_v14 : Ref sig .tc := ⟨.hbm, 313, rfl⟩
abbrev main_call16_cst : Ref sig .tc := ⟨.hbm, 314, rfl⟩
abbrev main_call16_v15 : Ref sig .tc := ⟨.hbm, 315, rfl⟩
abbrev main_v57 : Ref sig .tc := ⟨.hbm, 316, rfl⟩
abbrev main_v58 : Ref sig .tc := ⟨.hbm, 317, rfl⟩
abbrev main_v59 : Ref sig .tc := ⟨.hbm, 318, rfl⟩
abbrev main_v60 : Ref sig .tc := ⟨.hbm, 319, rfl⟩
abbrev main_v61 : Ref sig .tc := ⟨.hbm, 320, rfl⟩
abbrev main_call17_c : Ref sig .tc := ⟨.hbm, 321, rfl⟩
abbrev main_call17_v0 : Ref sig .tc := ⟨.hbm, 322, rfl⟩
abbrev main_call17_v1 : Ref sig .tc := ⟨.hbm, 323, rfl⟩
abbrev main_call17_c_0 : Ref sig .tc := ⟨.hbm, 324, rfl⟩
abbrev main_call17_v2 : Ref sig .tc := ⟨.hbm, 325, rfl⟩
abbrev main_call17_v3 : Ref sig .tc := ⟨.hbm, 326, rfl⟩
abbrev main_call17_v4 : Ref sig .tc := ⟨.hbm, 327, rfl⟩
abbrev main_call17_v5 : Ref sig .tc := ⟨.hbm, 328, rfl⟩
abbrev main_call17_c_1 : Ref sig .tc := ⟨.hbm, 329, rfl⟩
abbrev main_call17_c_2 : Ref sig .tc := ⟨.hbm, 330, rfl⟩
abbrev main_call17_v6 : Ref sig .tc := ⟨.hbm, 331, rfl⟩
abbrev main_call17_v7 : Ref sig .tc := ⟨.hbm, 332, rfl⟩
abbrev main_call17_v8 : Ref sig .tc := ⟨.hbm, 333, rfl⟩
abbrev main_call17_v9 : Ref sig .tc := ⟨.hbm, 334, rfl⟩
abbrev main_call17_v10 : Ref sig .tc := ⟨.hbm, 335, rfl⟩
abbrev main_call17_v11 : Ref sig .tc := ⟨.hbm, 336, rfl⟩
abbrev main_call17_c_3 : Ref sig .tc := ⟨.hbm, 337, rfl⟩
abbrev main_call17_v12 : Ref sig .tc := ⟨.hbm, 338, rfl⟩
abbrev main_call17_v13 : Ref sig .tc := ⟨.hbm, 339, rfl⟩
abbrev main_call17_v14 : Ref sig .tc := ⟨.hbm, 340, rfl⟩
abbrev main_call17_cst : Ref sig .tc := ⟨.hbm, 341, rfl⟩
abbrev main_call17_v15 : Ref sig .tc := ⟨.hbm, 342, rfl⟩
abbrev main_v62 : Ref sig .tc := ⟨.hbm, 343, rfl⟩
abbrev main_v63 : Ref sig .tc := ⟨.hbm, 344, rfl⟩
abbrev main_v64 : Ref sig .tc := ⟨.hbm, 345, rfl⟩
abbrev main_v65 : Ref sig .tc := ⟨.hbm, 346, rfl⟩
abbrev main_v66 : Ref sig .tc := ⟨.hbm, 347, rfl⟩
abbrev main_call18_c : Ref sig .tc := ⟨.hbm, 348, rfl⟩
abbrev main_call18_v0 : Ref sig .tc := ⟨.hbm, 349, rfl⟩
abbrev main_call18_v1 : Ref sig .tc := ⟨.hbm, 350, rfl⟩
abbrev main_call18_c_0 : Ref sig .tc := ⟨.hbm, 351, rfl⟩
abbrev main_call18_v2 : Ref sig .tc := ⟨.hbm, 352, rfl⟩
abbrev main_call18_v3 : Ref sig .tc := ⟨.hbm, 353, rfl⟩
abbrev main_call18_v4 : Ref sig .tc := ⟨.hbm, 354, rfl⟩
abbrev main_call18_v5 : Ref sig .tc := ⟨.hbm, 355, rfl⟩
abbrev main_call18_c_1 : Ref sig .tc := ⟨.hbm, 356, rfl⟩
abbrev main_call18_c_2 : Ref sig .tc := ⟨.hbm, 357, rfl⟩
abbrev main_call18_v6 : Ref sig .tc := ⟨.hbm, 358, rfl⟩
abbrev main_call18_v7 : Ref sig .tc := ⟨.hbm, 359, rfl⟩
abbrev main_call18_v8 : Ref sig .tc := ⟨.hbm, 360, rfl⟩
abbrev main_call18_v9 : Ref sig .tc := ⟨.hbm, 361, rfl⟩
abbrev main_call18_v10 : Ref sig .tc := ⟨.hbm, 362, rfl⟩
abbrev main_call18_v11 : Ref sig .tc := ⟨.hbm, 363, rfl⟩
abbrev main_call18_c_3 : Ref sig .tc := ⟨.hbm, 364, rfl⟩
abbrev main_call18_v12 : Ref sig .tc := ⟨.hbm, 365, rfl⟩
abbrev main_call18_v13 : Ref sig .tc := ⟨.hbm, 366, rfl⟩
abbrev main_call18_v14 : Ref sig .tc := ⟨.hbm, 367, rfl⟩
abbrev main_call18_cst : Ref sig .tc := ⟨.hbm, 368, rfl⟩
abbrev main_call18_v15 : Ref sig .tc := ⟨.hbm, 369, rfl⟩
abbrev main_v67 : Ref sig .tc := ⟨.hbm, 370, rfl⟩
abbrev main_v68 : Ref sig .tc := ⟨.hbm, 371, rfl⟩
abbrev main_v69 : Ref sig .tc := ⟨.hbm, 372, rfl⟩
abbrev main_v70 : Ref sig .tc := ⟨.hbm, 373, rfl⟩
abbrev main_v71 : Ref sig .tc := ⟨.hbm, 374, rfl⟩
abbrev main_call19_c : Ref sig .tc := ⟨.hbm, 375, rfl⟩
abbrev main_call19_v0 : Ref sig .tc := ⟨.hbm, 376, rfl⟩
abbrev main_call19_v1 : Ref sig .tc := ⟨.hbm, 377, rfl⟩
abbrev main_call19_c_0 : Ref sig .tc := ⟨.hbm, 378, rfl⟩
abbrev main_call19_v2 : Ref sig .tc := ⟨.hbm, 379, rfl⟩
abbrev main_call19_v3 : Ref sig .tc := ⟨.hbm, 380, rfl⟩
abbrev main_call19_v4 : Ref sig .tc := ⟨.hbm, 381, rfl⟩
abbrev main_call19_v5 : Ref sig .tc := ⟨.hbm, 382, rfl⟩
abbrev main_call19_c_1 : Ref sig .tc := ⟨.hbm, 383, rfl⟩
abbrev main_call19_c_2 : Ref sig .tc := ⟨.hbm, 384, rfl⟩
abbrev main_call19_v6 : Ref sig .tc := ⟨.hbm, 385, rfl⟩
abbrev main_call19_v7 : Ref sig .tc := ⟨.hbm, 386, rfl⟩
abbrev main_call19_v8 : Ref sig .tc := ⟨.hbm, 387, rfl⟩
abbrev main_call19_v9 : Ref sig .tc := ⟨.hbm, 388, rfl⟩
abbrev main_call19_v10 : Ref sig .tc := ⟨.hbm, 389, rfl⟩
abbrev main_call19_v11 : Ref sig .tc := ⟨.hbm, 390, rfl⟩
abbrev main_call19_c_3 : Ref sig .tc := ⟨.hbm, 391, rfl⟩
abbrev main_call19_v12 : Ref sig .tc := ⟨.hbm, 392, rfl⟩
abbrev main_call19_v13 : Ref sig .tc := ⟨.hbm, 393, rfl⟩
abbrev main_call19_v14 : Ref sig .tc := ⟨.hbm, 394, rfl⟩
abbrev main_call19_cst : Ref sig .tc := ⟨.hbm, 395, rfl⟩
abbrev main_call19_v15 : Ref sig .tc := ⟨.hbm, 396, rfl⟩
abbrev main_v72 : Ref sig .tc := ⟨.hbm, 397, rfl⟩
abbrev main_v73 : Ref sig .tc := ⟨.hbm, 398, rfl⟩
abbrev main_v74 : Ref sig .tc := ⟨.hbm, 399, rfl⟩
abbrev main_v75 : Ref sig .tc := ⟨.hbm, 400, rfl⟩
abbrev main_v76 : Ref sig .tc := ⟨.hbm, 401, rfl⟩
abbrev main_call20_c : Ref sig .tc := ⟨.hbm, 402, rfl⟩
abbrev main_call20_v0 : Ref sig .tc := ⟨.hbm, 403, rfl⟩
abbrev main_call20_v1 : Ref sig .tc := ⟨.hbm, 404, rfl⟩
abbrev main_call20_c_0 : Ref sig .tc := ⟨.hbm, 405, rfl⟩
abbrev main_call20_v2 : Ref sig .tc := ⟨.hbm, 406, rfl⟩
abbrev main_call20_v3 : Ref sig .tc := ⟨.hbm, 407, rfl⟩
abbrev main_call20_v4 : Ref sig .tc := ⟨.hbm, 408, rfl⟩
abbrev main_call20_v5 : Ref sig .tc := ⟨.hbm, 409, rfl⟩
abbrev main_call20_c_1 : Ref sig .tc := ⟨.hbm, 410, rfl⟩
abbrev main_call20_c_2 : Ref sig .tc := ⟨.hbm, 411, rfl⟩
abbrev main_call20_v6 : Ref sig .tc := ⟨.hbm, 412, rfl⟩
abbrev main_call20_v7 : Ref sig .tc := ⟨.hbm, 413, rfl⟩
abbrev main_call20_v8 : Ref sig .tc := ⟨.hbm, 414, rfl⟩
abbrev main_call20_v9 : Ref sig .tc := ⟨.hbm, 415, rfl⟩
abbrev main_call20_v10 : Ref sig .tc := ⟨.hbm, 416, rfl⟩
abbrev main_call20_v11 : Ref sig .tc := ⟨.hbm, 417, rfl⟩
abbrev main_call20_c_3 : Ref sig .tc := ⟨.hbm, 418, rfl⟩
abbrev main_call20_v12 : Ref sig .tc := ⟨.hbm, 419, rfl⟩
abbrev main_call20_v13 : Ref sig .tc := ⟨.hbm, 420, rfl⟩
abbrev main_call20_v14 : Ref sig .tc := ⟨.hbm, 421, rfl⟩
abbrev main_call20_cst : Ref sig .tc := ⟨.hbm, 422, rfl⟩
abbrev main_call20_v15 : Ref sig .tc := ⟨.hbm, 423, rfl⟩
abbrev main_v77 : Ref sig .tc := ⟨.hbm, 424, rfl⟩
abbrev main_v78 : Ref sig .tc := ⟨.hbm, 425, rfl⟩
abbrev main_v79 : Ref sig .tc := ⟨.hbm, 426, rfl⟩
abbrev main_v80 : Ref sig .tc := ⟨.hbm, 427, rfl⟩
abbrev main_v81 : Ref sig .tc := ⟨.hbm, 428, rfl⟩
abbrev main_call21_c : Ref sig .tc := ⟨.hbm, 429, rfl⟩
abbrev main_call21_v0 : Ref sig .tc := ⟨.hbm, 430, rfl⟩
abbrev main_call21_v1 : Ref sig .tc := ⟨.hbm, 431, rfl⟩
abbrev main_call21_c_0 : Ref sig .tc := ⟨.hbm, 432, rfl⟩
abbrev main_call21_v2 : Ref sig .tc := ⟨.hbm, 433, rfl⟩
abbrev main_call21_v3 : Ref sig .tc := ⟨.hbm, 434, rfl⟩
abbrev main_call21_v4 : Ref sig .tc := ⟨.hbm, 435, rfl⟩
abbrev main_call21_v5 : Ref sig .tc := ⟨.hbm, 436, rfl⟩
abbrev main_call21_c_1 : Ref sig .tc := ⟨.hbm, 437, rfl⟩
abbrev main_call21_c_2 : Ref sig .tc := ⟨.hbm, 438, rfl⟩
abbrev main_call21_v6 : Ref sig .tc := ⟨.hbm, 439, rfl⟩
abbrev main_call21_v7 : Ref sig .tc := ⟨.hbm, 440, rfl⟩
abbrev main_call21_v8 : Ref sig .tc := ⟨.hbm, 441, rfl⟩
abbrev main_call21_v9 : Ref sig .tc := ⟨.hbm, 442, rfl⟩
abbrev main_call21_v10 : Ref sig .tc := ⟨.hbm, 443, rfl⟩
abbrev main_call21_v11 : Ref sig .tc := ⟨.hbm, 444, rfl⟩
abbrev main_call21_c_3 : Ref sig .tc := ⟨.hbm, 445, rfl⟩
abbrev main_call21_v12 : Ref sig .tc := ⟨.hbm, 446, rfl⟩
abbrev main_call21_v13 : Ref sig .tc := ⟨.hbm, 447, rfl⟩
abbrev main_call21_v14 : Ref sig .tc := ⟨.hbm, 448, rfl⟩
abbrev main_call21_cst : Ref sig .tc := ⟨.hbm, 449, rfl⟩
abbrev main_call21_v15 : Ref sig .tc := ⟨.hbm, 450, rfl⟩
abbrev main_v82 : Ref sig .tc := ⟨.hbm, 451, rfl⟩
abbrev main_v83 : Ref sig .tc := ⟨.hbm, 452, rfl⟩
abbrev main_v84 : Ref sig .tc := ⟨.hbm, 453, rfl⟩
abbrev main_v85 : Ref sig .tc := ⟨.hbm, 454, rfl⟩
abbrev main_v86 : Ref sig .tc := ⟨.hbm, 455, rfl⟩
abbrev main_call22_c : Ref sig .tc := ⟨.hbm, 456, rfl⟩
abbrev main_call22_v0 : Ref sig .tc := ⟨.hbm, 457, rfl⟩
abbrev main_call22_v1 : Ref sig .tc := ⟨.hbm, 458, rfl⟩
abbrev main_call22_c_0 : Ref sig .tc := ⟨.hbm, 459, rfl⟩
abbrev main_call22_v2 : Ref sig .tc := ⟨.hbm, 460, rfl⟩
abbrev main_call22_v3 : Ref sig .tc := ⟨.hbm, 461, rfl⟩
abbrev main_call22_v4 : Ref sig .tc := ⟨.hbm, 462, rfl⟩
abbrev main_call22_v5 : Ref sig .tc := ⟨.hbm, 463, rfl⟩
abbrev main_call22_c_1 : Ref sig .tc := ⟨.hbm, 464, rfl⟩
abbrev main_call22_c_2 : Ref sig .tc := ⟨.hbm, 465, rfl⟩
abbrev main_call22_v6 : Ref sig .tc := ⟨.hbm, 466, rfl⟩
abbrev main_call22_v7 : Ref sig .tc := ⟨.hbm, 467, rfl⟩
abbrev main_call22_v8 : Ref sig .tc := ⟨.hbm, 468, rfl⟩
abbrev main_call22_v9 : Ref sig .tc := ⟨.hbm, 469, rfl⟩
abbrev main_call22_v10 : Ref sig .tc := ⟨.hbm, 470, rfl⟩
abbrev main_call22_v11 : Ref sig .tc := ⟨.hbm, 471, rfl⟩
abbrev main_call22_c_3 : Ref sig .tc := ⟨.hbm, 472, rfl⟩
abbrev main_call22_v12 : Ref sig .tc := ⟨.hbm, 473, rfl⟩
abbrev main_call22_v13 : Ref sig .tc := ⟨.hbm, 474, rfl⟩
abbrev main_call22_v14 : Ref sig .tc := ⟨.hbm, 475, rfl⟩
abbrev main_call22_cst : Ref sig .tc := ⟨.hbm, 476, rfl⟩
abbrev main_call22_v15 : Ref sig .tc := ⟨.hbm, 477, rfl⟩
abbrev main_v87 : Ref sig .tc := ⟨.hbm, 478, rfl⟩
abbrev main_v88 : Ref sig .tc := ⟨.hbm, 479, rfl⟩
abbrev main_v89 : Ref sig .tc := ⟨.hbm, 480, rfl⟩
abbrev main_v90 : Ref sig .tc := ⟨.hbm, 481, rfl⟩
abbrev main_v91 : Ref sig .tc := ⟨.hbm, 482, rfl⟩
abbrev main_call23_c : Ref sig .tc := ⟨.hbm, 483, rfl⟩
abbrev main_call23_v0 : Ref sig .tc := ⟨.hbm, 484, rfl⟩
abbrev main_call23_v1 : Ref sig .tc := ⟨.hbm, 485, rfl⟩
abbrev main_call23_c_0 : Ref sig .tc := ⟨.hbm, 486, rfl⟩
abbrev main_call23_v2 : Ref sig .tc := ⟨.hbm, 487, rfl⟩
abbrev main_call23_v3 : Ref sig .tc := ⟨.hbm, 488, rfl⟩
abbrev main_call23_v4 : Ref sig .tc := ⟨.hbm, 489, rfl⟩
abbrev main_call23_v5 : Ref sig .tc := ⟨.hbm, 490, rfl⟩
abbrev main_call23_c_1 : Ref sig .tc := ⟨.hbm, 491, rfl⟩
abbrev main_call23_c_2 : Ref sig .tc := ⟨.hbm, 492, rfl⟩
abbrev main_call23_v6 : Ref sig .tc := ⟨.hbm, 493, rfl⟩
abbrev main_call23_v7 : Ref sig .tc := ⟨.hbm, 494, rfl⟩
abbrev main_call23_v8 : Ref sig .tc := ⟨.hbm, 495, rfl⟩
abbrev main_call23_v9 : Ref sig .tc := ⟨.hbm, 496, rfl⟩
abbrev main_call23_v10 : Ref sig .tc := ⟨.hbm, 497, rfl⟩
abbrev main_call23_v11 : Ref sig .tc := ⟨.hbm, 498, rfl⟩
abbrev main_call23_c_3 : Ref sig .tc := ⟨.hbm, 499, rfl⟩
abbrev main_call23_v12 : Ref sig .tc := ⟨.hbm, 500, rfl⟩
abbrev main_call23_v13 : Ref sig .tc := ⟨.hbm, 501, rfl⟩
abbrev main_call23_v14 : Ref sig .tc := ⟨.hbm, 502, rfl⟩
abbrev main_call23_cst : Ref sig .tc := ⟨.hbm, 503, rfl⟩
abbrev main_call23_v15 : Ref sig .tc := ⟨.hbm, 504, rfl⟩
abbrev main_v92 : Ref sig .tc := ⟨.hbm, 505, rfl⟩
abbrev main_v93 : Ref sig .tc := ⟨.hbm, 506, rfl⟩
abbrev main_v94 : Ref sig .tc := ⟨.hbm, 507, rfl⟩
abbrev main_v95 : Ref sig .tc := ⟨.hbm, 508, rfl⟩
abbrev main_v96 : Ref sig .tc := ⟨.hbm, 509, rfl⟩
abbrev main_call24_c : Ref sig .tc := ⟨.hbm, 510, rfl⟩
abbrev main_call24_v0 : Ref sig .tc := ⟨.hbm, 511, rfl⟩
abbrev main_call24_v1 : Ref sig .tc := ⟨.hbm, 512, rfl⟩
abbrev main_call24_c_0 : Ref sig .tc := ⟨.hbm, 513, rfl⟩
abbrev main_call24_v2 : Ref sig .tc := ⟨.hbm, 514, rfl⟩
abbrev main_call24_v3 : Ref sig .tc := ⟨.hbm, 515, rfl⟩
abbrev main_call24_v4 : Ref sig .tc := ⟨.hbm, 516, rfl⟩
abbrev main_call24_v5 : Ref sig .tc := ⟨.hbm, 517, rfl⟩
abbrev main_call24_c_1 : Ref sig .tc := ⟨.hbm, 518, rfl⟩
abbrev main_call24_c_2 : Ref sig .tc := ⟨.hbm, 519, rfl⟩
abbrev main_call24_v6 : Ref sig .tc := ⟨.hbm, 520, rfl⟩
abbrev main_call24_v7 : Ref sig .tc := ⟨.hbm, 521, rfl⟩
abbrev main_call24_v8 : Ref sig .tc := ⟨.hbm, 522, rfl⟩
abbrev main_call24_v9 : Ref sig .tc := ⟨.hbm, 523, rfl⟩
abbrev main_call24_v10 : Ref sig .tc := ⟨.hbm, 524, rfl⟩
abbrev main_call24_v11 : Ref sig .tc := ⟨.hbm, 525, rfl⟩
abbrev main_call24_c_3 : Ref sig .tc := ⟨.hbm, 526, rfl⟩
abbrev main_call24_v12 : Ref sig .tc := ⟨.hbm, 527, rfl⟩
abbrev main_call24_v13 : Ref sig .tc := ⟨.hbm, 528, rfl⟩
abbrev main_call24_v14 : Ref sig .tc := ⟨.hbm, 529, rfl⟩
abbrev main_call24_cst : Ref sig .tc := ⟨.hbm, 530, rfl⟩
abbrev main_call24_v15 : Ref sig .tc := ⟨.hbm, 531, rfl⟩
abbrev main_v97 : Ref sig .tc := ⟨.hbm, 532, rfl⟩
abbrev main_v98 : Ref sig .tc := ⟨.hbm, 533, rfl⟩
abbrev main_v99 : Ref sig .tc := ⟨.hbm, 534, rfl⟩
abbrev main_v100 : Ref sig .tc := ⟨.hbm, 535, rfl⟩
abbrev main_v101 : Ref sig .tc := ⟨.hbm, 536, rfl⟩
abbrev main_call25_c : Ref sig .tc := ⟨.hbm, 537, rfl⟩
abbrev main_call25_v0 : Ref sig .tc := ⟨.hbm, 538, rfl⟩
abbrev main_call25_v1 : Ref sig .tc := ⟨.hbm, 539, rfl⟩
abbrev main_call25_c_0 : Ref sig .tc := ⟨.hbm, 540, rfl⟩
abbrev main_call25_v2 : Ref sig .tc := ⟨.hbm, 541, rfl⟩
abbrev main_call25_v3 : Ref sig .tc := ⟨.hbm, 542, rfl⟩
abbrev main_call25_v4 : Ref sig .tc := ⟨.hbm, 543, rfl⟩
abbrev main_call25_v5 : Ref sig .tc := ⟨.hbm, 544, rfl⟩
abbrev main_call25_c_1 : Ref sig .tc := ⟨.hbm, 545, rfl⟩
abbrev main_call25_c_2 : Ref sig .tc := ⟨.hbm, 546, rfl⟩
abbrev main_call25_v6 : Ref sig .tc := ⟨.hbm, 547, rfl⟩
abbrev main_call25_v7 : Ref sig .tc := ⟨.hbm, 548, rfl⟩
abbrev main_call25_v8 : Ref sig .tc := ⟨.hbm, 549, rfl⟩
abbrev main_call25_v9 : Ref sig .tc := ⟨.hbm, 550, rfl⟩
abbrev main_call25_v10 : Ref sig .tc := ⟨.hbm, 551, rfl⟩
abbrev main_call25_v11 : Ref sig .tc := ⟨.hbm, 552, rfl⟩
abbrev main_call25_c_3 : Ref sig .tc := ⟨.hbm, 553, rfl⟩
abbrev main_call25_v12 : Ref sig .tc := ⟨.hbm, 554, rfl⟩
abbrev main_call25_v13 : Ref sig .tc := ⟨.hbm, 555, rfl⟩
abbrev main_call25_v14 : Ref sig .tc := ⟨.hbm, 556, rfl⟩
abbrev main_call25_cst : Ref sig .tc := ⟨.hbm, 557, rfl⟩
abbrev main_call25_v15 : Ref sig .tc := ⟨.hbm, 558, rfl⟩
abbrev main_v102 : Ref sig .tc := ⟨.hbm, 559, rfl⟩
abbrev main_v103 : Ref sig .tc := ⟨.hbm, 560, rfl⟩
abbrev main_v104 : Ref sig .tc := ⟨.hbm, 561, rfl⟩
abbrev main_v105 : Ref sig .tc := ⟨.hbm, 562, rfl⟩
abbrev main_v106 : Ref sig .tc := ⟨.hbm, 563, rfl⟩
abbrev main_call26_c : Ref sig .tc := ⟨.hbm, 564, rfl⟩
abbrev main_call26_v0 : Ref sig .tc := ⟨.hbm, 565, rfl⟩
abbrev main_call26_v1 : Ref sig .tc := ⟨.hbm, 566, rfl⟩
abbrev main_call26_c_0 : Ref sig .tc := ⟨.hbm, 567, rfl⟩
abbrev main_call26_v2 : Ref sig .tc := ⟨.hbm, 568, rfl⟩
abbrev main_call26_v3 : Ref sig .tc := ⟨.hbm, 569, rfl⟩
abbrev main_call26_v4 : Ref sig .tc := ⟨.hbm, 570, rfl⟩
abbrev main_call26_v5 : Ref sig .tc := ⟨.hbm, 571, rfl⟩
abbrev main_call26_c_1 : Ref sig .tc := ⟨.hbm, 572, rfl⟩
abbrev main_call26_c_2 : Ref sig .tc := ⟨.hbm, 573, rfl⟩
abbrev main_call26_v6 : Ref sig .tc := ⟨.hbm, 574, rfl⟩
abbrev main_call26_v7 : Ref sig .tc := ⟨.hbm, 575, rfl⟩
abbrev main_call26_v8 : Ref sig .tc := ⟨.hbm, 576, rfl⟩
abbrev main_call26_v9 : Ref sig .tc := ⟨.hbm, 577, rfl⟩
abbrev main_call26_v10 : Ref sig .tc := ⟨.hbm, 578, rfl⟩
abbrev main_call26_v11 : Ref sig .tc := ⟨.hbm, 579, rfl⟩
abbrev main_call26_c_3 : Ref sig .tc := ⟨.hbm, 580, rfl⟩
abbrev main_call26_v12 : Ref sig .tc := ⟨.hbm, 581, rfl⟩
abbrev main_call26_v13 : Ref sig .tc := ⟨.hbm, 582, rfl⟩
abbrev main_call26_v14 : Ref sig .tc := ⟨.hbm, 583, rfl⟩
abbrev main_call26_cst : Ref sig .tc := ⟨.hbm, 584, rfl⟩
abbrev main_call26_v15 : Ref sig .tc := ⟨.hbm, 585, rfl⟩
abbrev main_v107 : Ref sig .tc := ⟨.hbm, 586, rfl⟩
abbrev main_v108 : Ref sig .tc := ⟨.hbm, 587, rfl⟩
abbrev main_v109 : Ref sig .tc := ⟨.hbm, 588, rfl⟩
abbrev main_v110 : Ref sig .tc := ⟨.hbm, 589, rfl⟩
abbrev main_v111 : Ref sig .tc := ⟨.hbm, 590, rfl⟩
abbrev main_call27_c : Ref sig .tc := ⟨.hbm, 591, rfl⟩
abbrev main_call27_v0 : Ref sig .tc := ⟨.hbm, 592, rfl⟩
abbrev main_call27_v1 : Ref sig .tc := ⟨.hbm, 593, rfl⟩
abbrev main_call27_c_0 : Ref sig .tc := ⟨.hbm, 594, rfl⟩
abbrev main_call27_v2 : Ref sig .tc := ⟨.hbm, 595, rfl⟩
abbrev main_call27_v3 : Ref sig .tc := ⟨.hbm, 596, rfl⟩
abbrev main_call27_v4 : Ref sig .tc := ⟨.hbm, 597, rfl⟩
abbrev main_call27_v5 : Ref sig .tc := ⟨.hbm, 598, rfl⟩
abbrev main_call27_c_1 : Ref sig .tc := ⟨.hbm, 599, rfl⟩
abbrev main_call27_c_2 : Ref sig .tc := ⟨.hbm, 600, rfl⟩
abbrev main_call27_v6 : Ref sig .tc := ⟨.hbm, 601, rfl⟩
abbrev main_call27_v7 : Ref sig .tc := ⟨.hbm, 602, rfl⟩
abbrev main_call27_v8 : Ref sig .tc := ⟨.hbm, 603, rfl⟩
abbrev main_call27_v9 : Ref sig .tc := ⟨.hbm, 604, rfl⟩
abbrev main_call27_v10 : Ref sig .tc := ⟨.hbm, 605, rfl⟩
abbrev main_call27_v11 : Ref sig .tc := ⟨.hbm, 606, rfl⟩
abbrev main_call27_c_3 : Ref sig .tc := ⟨.hbm, 607, rfl⟩
abbrev main_call27_v12 : Ref sig .tc := ⟨.hbm, 608, rfl⟩
abbrev main_call27_v13 : Ref sig .tc := ⟨.hbm, 609, rfl⟩
abbrev main_call27_v14 : Ref sig .tc := ⟨.hbm, 610, rfl⟩
abbrev main_call27_cst : Ref sig .tc := ⟨.hbm, 611, rfl⟩
abbrev main_call27_v15 : Ref sig .tc := ⟨.hbm, 612, rfl⟩
abbrev main_v112 : Ref sig .tc := ⟨.hbm, 613, rfl⟩
abbrev main_v113 : Ref sig .tc := ⟨.hbm, 614, rfl⟩
abbrev main_v114 : Ref sig .tc := ⟨.hbm, 615, rfl⟩
abbrev main_v115 : Ref sig .tc := ⟨.hbm, 616, rfl⟩
abbrev main_v116 : Ref sig .tc := ⟨.hbm, 617, rfl⟩
abbrev main_call28_c : Ref sig .tc := ⟨.hbm, 618, rfl⟩
abbrev main_call28_v0 : Ref sig .tc := ⟨.hbm, 619, rfl⟩
abbrev main_call28_v1 : Ref sig .tc := ⟨.hbm, 620, rfl⟩
abbrev main_call28_c_0 : Ref sig .tc := ⟨.hbm, 621, rfl⟩
abbrev main_call28_v2 : Ref sig .tc := ⟨.hbm, 622, rfl⟩
abbrev main_call28_v3 : Ref sig .tc := ⟨.hbm, 623, rfl⟩
abbrev main_call28_v4 : Ref sig .tc := ⟨.hbm, 624, rfl⟩
abbrev main_call28_v5 : Ref sig .tc := ⟨.hbm, 625, rfl⟩
abbrev main_call28_c_1 : Ref sig .tc := ⟨.hbm, 626, rfl⟩
abbrev main_call28_c_2 : Ref sig .tc := ⟨.hbm, 627, rfl⟩
abbrev main_call28_v6 : Ref sig .tc := ⟨.hbm, 628, rfl⟩
abbrev main_call28_v7 : Ref sig .tc := ⟨.hbm, 629, rfl⟩
abbrev main_call28_v8 : Ref sig .tc := ⟨.hbm, 630, rfl⟩
abbrev main_call28_v9 : Ref sig .tc := ⟨.hbm, 631, rfl⟩
abbrev main_call28_v10 : Ref sig .tc := ⟨.hbm, 632, rfl⟩
abbrev main_call28_v11 : Ref sig .tc := ⟨.hbm, 633, rfl⟩
abbrev main_call28_c_3 : Ref sig .tc := ⟨.hbm, 634, rfl⟩
abbrev main_call28_v12 : Ref sig .tc := ⟨.hbm, 635, rfl⟩
abbrev main_call28_v13 : Ref sig .tc := ⟨.hbm, 636, rfl⟩
abbrev main_call28_v14 : Ref sig .tc := ⟨.hbm, 637, rfl⟩
abbrev main_call28_cst : Ref sig .tc := ⟨.hbm, 638, rfl⟩
abbrev main_call28_v15 : Ref sig .tc := ⟨.hbm, 639, rfl⟩
abbrev main_v117 : Ref sig .tc := ⟨.hbm, 640, rfl⟩
abbrev main_v118 : Ref sig .tc := ⟨.hbm, 641, rfl⟩
abbrev main_v119 : Ref sig .tc := ⟨.hbm, 642, rfl⟩
abbrev main_v120 : Ref sig .tc := ⟨.hbm, 643, rfl⟩
abbrev main_v121 : Ref sig .tc := ⟨.hbm, 644, rfl⟩
abbrev main_call29_c : Ref sig .tc := ⟨.hbm, 645, rfl⟩
abbrev main_call29_v0 : Ref sig .tc := ⟨.hbm, 646, rfl⟩
abbrev main_call29_v1 : Ref sig .tc := ⟨.hbm, 647, rfl⟩
abbrev main_call29_c_0 : Ref sig .tc := ⟨.hbm, 648, rfl⟩
abbrev main_call29_v2 : Ref sig .tc := ⟨.hbm, 649, rfl⟩
abbrev main_call29_v3 : Ref sig .tc := ⟨.hbm, 650, rfl⟩
abbrev main_call29_v4 : Ref sig .tc := ⟨.hbm, 651, rfl⟩
abbrev main_call29_v5 : Ref sig .tc := ⟨.hbm, 652, rfl⟩
abbrev main_call29_c_1 : Ref sig .tc := ⟨.hbm, 653, rfl⟩
abbrev main_call29_c_2 : Ref sig .tc := ⟨.hbm, 654, rfl⟩
abbrev main_call29_v6 : Ref sig .tc := ⟨.hbm, 655, rfl⟩
abbrev main_call29_v7 : Ref sig .tc := ⟨.hbm, 656, rfl⟩
abbrev main_call29_v8 : Ref sig .tc := ⟨.hbm, 657, rfl⟩
abbrev main_call29_v9 : Ref sig .tc := ⟨.hbm, 658, rfl⟩
abbrev main_call29_v10 : Ref sig .tc := ⟨.hbm, 659, rfl⟩
abbrev main_call29_v11 : Ref sig .tc := ⟨.hbm, 660, rfl⟩
abbrev main_call29_c_3 : Ref sig .tc := ⟨.hbm, 661, rfl⟩
abbrev main_call29_v12 : Ref sig .tc := ⟨.hbm, 662, rfl⟩
abbrev main_call29_v13 : Ref sig .tc := ⟨.hbm, 663, rfl⟩
abbrev main_call29_v14 : Ref sig .tc := ⟨.hbm, 664, rfl⟩
abbrev main_call29_cst : Ref sig .tc := ⟨.hbm, 665, rfl⟩
abbrev main_call29_v15 : Ref sig .tc := ⟨.hbm, 666, rfl⟩
abbrev main_v122 : Ref sig .tc := ⟨.hbm, 667, rfl⟩
abbrev main_v123 : Ref sig .tc := ⟨.hbm, 668, rfl⟩
abbrev main_v124 : Ref sig .tc := ⟨.hbm, 669, rfl⟩
abbrev main_v125 : Ref sig .tc := ⟨.hbm, 670, rfl⟩
abbrev main_v126 : Ref sig .tc := ⟨.hbm, 671, rfl⟩
abbrev main_call30_c : Ref sig .tc := ⟨.hbm, 672, rfl⟩
abbrev main_call30_v0 : Ref sig .tc := ⟨.hbm, 673, rfl⟩
abbrev main_call30_v1 : Ref sig .tc := ⟨.hbm, 674, rfl⟩
abbrev main_call30_c_0 : Ref sig .tc := ⟨.hbm, 675, rfl⟩
abbrev main_call30_v2 : Ref sig .tc := ⟨.hbm, 676, rfl⟩
abbrev main_call30_v3 : Ref sig .tc := ⟨.hbm, 677, rfl⟩
abbrev main_call30_v4 : Ref sig .tc := ⟨.hbm, 678, rfl⟩
abbrev main_call30_v5 : Ref sig .tc := ⟨.hbm, 679, rfl⟩
abbrev main_call30_c_1 : Ref sig .tc := ⟨.hbm, 680, rfl⟩
abbrev main_call30_c_2 : Ref sig .tc := ⟨.hbm, 681, rfl⟩
abbrev main_call30_v6 : Ref sig .tc := ⟨.hbm, 682, rfl⟩
abbrev main_call30_v7 : Ref sig .tc := ⟨.hbm, 683, rfl⟩
abbrev main_call30_v8 : Ref sig .tc := ⟨.hbm, 684, rfl⟩
abbrev main_call30_v9 : Ref sig .tc := ⟨.hbm, 685, rfl⟩
abbrev main_call30_v10 : Ref sig .tc := ⟨.hbm, 686, rfl⟩
abbrev main_call30_v11 : Ref sig .tc := ⟨.hbm, 687, rfl⟩
abbrev main_call30_c_3 : Ref sig .tc := ⟨.hbm, 688, rfl⟩
abbrev main_call30_v12 : Ref sig .tc := ⟨.hbm, 689, rfl⟩
abbrev main_call30_v13 : Ref sig .tc := ⟨.hbm, 690, rfl⟩
abbrev main_call30_v14 : Ref sig .tc := ⟨.hbm, 691, rfl⟩
abbrev main_call30_cst : Ref sig .tc := ⟨.hbm, 692, rfl⟩
abbrev main_call30_v15 : Ref sig .tc := ⟨.hbm, 693, rfl⟩
abbrev main_v127 : Ref sig .tc := ⟨.hbm, 694, rfl⟩
abbrev main_v128 : Ref sig .tc := ⟨.hbm, 695, rfl⟩
abbrev main_v129 : Ref sig .tc := ⟨.hbm, 696, rfl⟩
abbrev main_v130 : Ref sig .tc := ⟨.hbm, 697, rfl⟩
abbrev main_v131 : Ref sig .tc := ⟨.hbm, 698, rfl⟩
abbrev main_call31_c : Ref sig .tc := ⟨.hbm, 699, rfl⟩
abbrev main_call31_v0 : Ref sig .tc := ⟨.hbm, 700, rfl⟩
abbrev main_call31_v1 : Ref sig .tc := ⟨.hbm, 701, rfl⟩
abbrev main_call31_c_0 : Ref sig .tc := ⟨.hbm, 702, rfl⟩
abbrev main_call31_v2 : Ref sig .tc := ⟨.hbm, 703, rfl⟩
abbrev main_call31_v3 : Ref sig .tc := ⟨.hbm, 704, rfl⟩
abbrev main_call31_v4 : Ref sig .tc := ⟨.hbm, 705, rfl⟩
abbrev main_call31_v5 : Ref sig .tc := ⟨.hbm, 706, rfl⟩
abbrev main_call31_c_1 : Ref sig .tc := ⟨.hbm, 707, rfl⟩
abbrev main_call31_c_2 : Ref sig .tc := ⟨.hbm, 708, rfl⟩
abbrev main_call31_v6 : Ref sig .tc := ⟨.hbm, 709, rfl⟩
abbrev main_call31_v7 : Ref sig .tc := ⟨.hbm, 710, rfl⟩
abbrev main_call31_v8 : Ref sig .tc := ⟨.hbm, 711, rfl⟩
abbrev main_call31_v9 : Ref sig .tc := ⟨.hbm, 712, rfl⟩
abbrev main_call31_v10 : Ref sig .tc := ⟨.hbm, 713, rfl⟩
abbrev main_call31_v11 : Ref sig .tc := ⟨.hbm, 714, rfl⟩
abbrev main_call31_c_3 : Ref sig .tc := ⟨.hbm, 715, rfl⟩
abbrev main_call31_v12 : Ref sig .tc := ⟨.hbm, 716, rfl⟩
abbrev main_call31_v13 : Ref sig .tc := ⟨.hbm, 717, rfl⟩
abbrev main_call31_v14 : Ref sig .tc := ⟨.hbm, 718, rfl⟩
abbrev main_call31_cst : Ref sig .tc := ⟨.hbm, 719, rfl⟩
abbrev main_call31_v15 : Ref sig .tc := ⟨.hbm, 720, rfl⟩
abbrev main_v132 : Ref sig .tc := ⟨.hbm, 721, rfl⟩
abbrev main_v133 : Ref sig .tc := ⟨.hbm, 722, rfl⟩
abbrev main_v134 : Ref sig .tc := ⟨.hbm, 723, rfl⟩
abbrev main_v135 : Ref sig .tc := ⟨.hbm, 724, rfl⟩
abbrev main_v136 : Ref sig .tc := ⟨.hbm, 725, rfl⟩
abbrev main_call32_c : Ref sig .tc := ⟨.hbm, 726, rfl⟩
abbrev main_call32_v0 : Ref sig .tc := ⟨.hbm, 727, rfl⟩
abbrev main_call32_v1 : Ref sig .tc := ⟨.hbm, 728, rfl⟩
abbrev main_call32_c_0 : Ref sig .tc := ⟨.hbm, 729, rfl⟩
abbrev main_call32_v2 : Ref sig .tc := ⟨.hbm, 730, rfl⟩
abbrev main_call32_v3 : Ref sig .tc := ⟨.hbm, 731, rfl⟩
abbrev main_call32_v4 : Ref sig .tc := ⟨.hbm, 732, rfl⟩
abbrev main_call32_v5 : Ref sig .tc := ⟨.hbm, 733, rfl⟩
abbrev main_call32_c_1 : Ref sig .tc := ⟨.hbm, 734, rfl⟩
abbrev main_call32_c_2 : Ref sig .tc := ⟨.hbm, 735, rfl⟩
abbrev main_call32_v6 : Ref sig .tc := ⟨.hbm, 736, rfl⟩
abbrev main_call32_v7 : Ref sig .tc := ⟨.hbm, 737, rfl⟩
abbrev main_call32_v8 : Ref sig .tc := ⟨.hbm, 738, rfl⟩
abbrev main_call32_v9 : Ref sig .tc := ⟨.hbm, 739, rfl⟩
abbrev main_call32_v10 : Ref sig .tc := ⟨.hbm, 740, rfl⟩
abbrev main_call32_v11 : Ref sig .tc := ⟨.hbm, 741, rfl⟩
abbrev main_call32_c_3 : Ref sig .tc := ⟨.hbm, 742, rfl⟩
abbrev main_call32_v12 : Ref sig .tc := ⟨.hbm, 743, rfl⟩
abbrev main_call32_v13 : Ref sig .tc := ⟨.hbm, 744, rfl⟩
abbrev main_call32_v14 : Ref sig .tc := ⟨.hbm, 745, rfl⟩
abbrev main_call32_cst : Ref sig .tc := ⟨.hbm, 746, rfl⟩
abbrev main_call32_v15 : Ref sig .tc := ⟨.hbm, 747, rfl⟩
abbrev main_v137 : Ref sig .tc := ⟨.hbm, 748, rfl⟩
abbrev main_v138 : Ref sig .tc := ⟨.hbm, 749, rfl⟩
abbrev main_v139 : Ref sig .tc := ⟨.hbm, 750, rfl⟩
abbrev main_v140 : Ref sig .tc := ⟨.hbm, 751, rfl⟩
abbrev main_v141 : Ref sig .tc := ⟨.hbm, 752, rfl⟩
abbrev main_call33_c : Ref sig .tc := ⟨.hbm, 753, rfl⟩
abbrev main_call33_v0 : Ref sig .tc := ⟨.hbm, 754, rfl⟩
abbrev main_call33_v1 : Ref sig .tc := ⟨.hbm, 755, rfl⟩
abbrev main_call33_c_0 : Ref sig .tc := ⟨.hbm, 756, rfl⟩
abbrev main_call33_v2 : Ref sig .tc := ⟨.hbm, 757, rfl⟩
abbrev main_call33_v3 : Ref sig .tc := ⟨.hbm, 758, rfl⟩
abbrev main_call33_v4 : Ref sig .tc := ⟨.hbm, 759, rfl⟩
abbrev main_call33_v5 : Ref sig .tc := ⟨.hbm, 760, rfl⟩
abbrev main_call33_c_1 : Ref sig .tc := ⟨.hbm, 761, rfl⟩
abbrev main_call33_c_2 : Ref sig .tc := ⟨.hbm, 762, rfl⟩
abbrev main_call33_v6 : Ref sig .tc := ⟨.hbm, 763, rfl⟩
abbrev main_call33_v7 : Ref sig .tc := ⟨.hbm, 764, rfl⟩
abbrev main_call33_v8 : Ref sig .tc := ⟨.hbm, 765, rfl⟩
abbrev main_call33_v9 : Ref sig .tc := ⟨.hbm, 766, rfl⟩
abbrev main_call33_v10 : Ref sig .tc := ⟨.hbm, 767, rfl⟩
abbrev main_call33_v11 : Ref sig .tc := ⟨.hbm, 768, rfl⟩
abbrev main_call33_c_3 : Ref sig .tc := ⟨.hbm, 769, rfl⟩
abbrev main_call33_v12 : Ref sig .tc := ⟨.hbm, 770, rfl⟩
abbrev main_call33_v13 : Ref sig .tc := ⟨.hbm, 771, rfl⟩
abbrev main_call33_v14 : Ref sig .tc := ⟨.hbm, 772, rfl⟩
abbrev main_call33_cst : Ref sig .tc := ⟨.hbm, 773, rfl⟩
abbrev main_call33_v15 : Ref sig .tc := ⟨.hbm, 774, rfl⟩
abbrev main_v142 : Ref sig .tc := ⟨.hbm, 775, rfl⟩
abbrev main_v143 : Ref sig .tc := ⟨.hbm, 776, rfl⟩
abbrev main_v144 : Ref sig .tc := ⟨.hbm, 777, rfl⟩
abbrev main_v145 : Ref sig .tc := ⟨.hbm, 778, rfl⟩
abbrev main_v146 : Ref sig .tc := ⟨.hbm, 779, rfl⟩
abbrev main_v147 : Ref sig .tc := ⟨.hbm, 780, rfl⟩
abbrev main_v148 : Ref sig .tc := ⟨.hbm, 781, rfl⟩
abbrev main_v149 : Ref sig .tc := ⟨.hbm, 782, rfl⟩
abbrev main_v150 : Ref sig .tc := ⟨.hbm, 783, rfl⟩
abbrev main_v151 : Ref sig .tc := ⟨.hbm, 784, rfl⟩
abbrev main_v152 : Ref sig .tc := ⟨.hbm, 785, rfl⟩
abbrev main_v153 : Ref sig .tc := ⟨.hbm, 786, rfl⟩
abbrev main_c_22 : Ref sig .tc := ⟨.hbm, 787, rfl⟩
abbrev main_c_23 : Ref sig .tc := ⟨.hbm, 788, rfl⟩
abbrev main_call34_v0 : Ref sig .tc := ⟨.hbm, 789, rfl⟩
abbrev main_call34_v1 : Ref sig .tc := ⟨.hbm, 790, rfl⟩
abbrev main_call34_v2 : Ref sig .tc := ⟨.hbm, 791, rfl⟩
abbrev main_call34_v3 : Ref sig .tc := ⟨.hbm, 792, rfl⟩
abbrev main_call34_v4 : Ref sig .tc := ⟨.hbm, 793, rfl⟩
abbrev main_v154 : Ref sig .tc := ⟨.hbm, 794, rfl⟩
abbrev main_call35_c : Ref sig .tc := ⟨.hbm, 795, rfl⟩
abbrev main_call35_v0 : Ref sig .tc := ⟨.hbm, 796, rfl⟩
abbrev main_call35_v1 : Ref sig .tc := ⟨.hbm, 797, rfl⟩
abbrev main_call35_c_0 : Ref sig .tc := ⟨.hbm, 798, rfl⟩
abbrev main_call35_v2 : Ref sig .tc := ⟨.hbm, 799, rfl⟩
abbrev main_call35_v3 : Ref sig .tc := ⟨.hbm, 800, rfl⟩
abbrev main_call35_v4 : Ref sig .tc := ⟨.hbm, 801, rfl⟩
abbrev main_call35_v5 : Ref sig .tc := ⟨.hbm, 802, rfl⟩
abbrev main_call35_c_1 : Ref sig .tc := ⟨.hbm, 803, rfl⟩
abbrev main_call35_c_2 : Ref sig .tc := ⟨.hbm, 804, rfl⟩
abbrev main_call35_v6 : Ref sig .tc := ⟨.hbm, 805, rfl⟩
abbrev main_call35_v7 : Ref sig .tc := ⟨.hbm, 806, rfl⟩
abbrev main_call35_v8 : Ref sig .tc := ⟨.hbm, 807, rfl⟩
abbrev main_call35_v9 : Ref sig .tc := ⟨.hbm, 808, rfl⟩
abbrev main_call35_v10 : Ref sig .tc := ⟨.hbm, 809, rfl⟩
abbrev main_call35_v11 : Ref sig .tc := ⟨.hbm, 810, rfl⟩
abbrev main_call35_c_3 : Ref sig .tc := ⟨.hbm, 811, rfl⟩
abbrev main_call35_v12 : Ref sig .tc := ⟨.hbm, 812, rfl⟩
abbrev main_call35_v13 : Ref sig .tc := ⟨.hbm, 813, rfl⟩
abbrev main_call35_v14 : Ref sig .tc := ⟨.hbm, 814, rfl⟩
abbrev main_call35_cst : Ref sig .tc := ⟨.hbm, 815, rfl⟩
abbrev main_call35_v15 : Ref sig .tc := ⟨.hbm, 816, rfl⟩
abbrev main_v155 : Ref sig .tc := ⟨.hbm, 817, rfl⟩
abbrev main_v156 : Ref sig .tc := ⟨.hbm, 818, rfl⟩
abbrev main_v157 : Ref sig .tc := ⟨.hbm, 819, rfl⟩
abbrev main_v158 : Ref sig .tc := ⟨.hbm, 820, rfl⟩
abbrev main_c_24 : Ref sig .tc := ⟨.hbm, 821, rfl⟩
abbrev main_c_25 : Ref sig .tc := ⟨.hbm, 822, rfl⟩
abbrev main_call36_v0 : Ref sig .tc := ⟨.hbm, 823, rfl⟩
abbrev main_call36_v1 : Ref sig .tc := ⟨.hbm, 824, rfl⟩
abbrev main_call36_v2 : Ref sig .tc := ⟨.hbm, 825, rfl⟩
abbrev main_call36_v3 : Ref sig .tc := ⟨.hbm, 826, rfl⟩
abbrev main_call36_v4 : Ref sig .tc := ⟨.hbm, 827, rfl⟩
abbrev main_v159 : Ref sig .tc := ⟨.hbm, 828, rfl⟩
abbrev main_call37_c : Ref sig .tc := ⟨.hbm, 829, rfl⟩
abbrev main_call37_v0 : Ref sig .tc := ⟨.hbm, 830, rfl⟩
abbrev main_call37_v1 : Ref sig .tc := ⟨.hbm, 831, rfl⟩
abbrev main_call37_c_0 : Ref sig .tc := ⟨.hbm, 832, rfl⟩
abbrev main_call37_v2 : Ref sig .tc := ⟨.hbm, 833, rfl⟩
abbrev main_call37_v3 : Ref sig .tc := ⟨.hbm, 834, rfl⟩
abbrev main_call37_v4 : Ref sig .tc := ⟨.hbm, 835, rfl⟩
abbrev main_call37_v5 : Ref sig .tc := ⟨.hbm, 836, rfl⟩
abbrev main_call37_c_1 : Ref sig .tc := ⟨.hbm, 837, rfl⟩
abbrev main_call37_c_2 : Ref sig .tc := ⟨.hbm, 838, rfl⟩
abbrev main_call37_v6 : Ref sig .tc := ⟨.hbm, 839, rfl⟩
abbrev main_call37_v7 : Ref sig .tc := ⟨.hbm, 840, rfl⟩
abbrev main_call37_v8 : Ref sig .tc := ⟨.hbm, 841, rfl⟩
abbrev main_call37_v9 : Ref sig .tc := ⟨.hbm, 842, rfl⟩
abbrev main_call37_v10 : Ref sig .tc := ⟨.hbm, 843, rfl⟩
abbrev main_call37_v11 : Ref sig .tc := ⟨.hbm, 844, rfl⟩
abbrev main_call37_c_3 : Ref sig .tc := ⟨.hbm, 845, rfl⟩
abbrev main_call37_v12 : Ref sig .tc := ⟨.hbm, 846, rfl⟩
abbrev main_call37_v13 : Ref sig .tc := ⟨.hbm, 847, rfl⟩
abbrev main_call37_v14 : Ref sig .tc := ⟨.hbm, 848, rfl⟩
abbrev main_call37_cst : Ref sig .tc := ⟨.hbm, 849, rfl⟩
abbrev main_call37_v15 : Ref sig .tc := ⟨.hbm, 850, rfl⟩
abbrev main_v160 : Ref sig .tc := ⟨.hbm, 851, rfl⟩
abbrev main_v161 : Ref sig .tc := ⟨.hbm, 852, rfl⟩
abbrev main_v162 : Ref sig .tc := ⟨.hbm, 853, rfl⟩
abbrev main_v163 : Ref sig .tc := ⟨.hbm, 854, rfl⟩
abbrev main_c_26 : Ref sig .tc := ⟨.hbm, 855, rfl⟩
abbrev main_v164 : Ref sig .tc := ⟨.hbm, 856, rfl⟩
abbrev main_c_27 : Ref sig .tc := ⟨.hbm, 857, rfl⟩
abbrev main_v165 : Ref sig .tc := ⟨.hbm, 858, rfl⟩
abbrev main_v166 : Ref sig .tc := ⟨.hbm, 859, rfl⟩
abbrev main_c_28 : Ref sig .tc := ⟨.hbm, 860, rfl⟩
abbrev main_call38_v0 : Ref sig .tc := ⟨.hbm, 861, rfl⟩
abbrev main_call38_v1 : Ref sig .tc := ⟨.hbm, 862, rfl⟩
abbrev main_v167 : Ref sig .tc := ⟨.hbm, 863, rfl⟩
abbrev main_c_29 : Ref sig .tc := ⟨.hbm, 864, rfl⟩
abbrev main_v168 : Ref sig .tc := ⟨.hbm, 865, rfl⟩
abbrev main_v169 : Ref sig .tc := ⟨.hbm, 866, rfl⟩
abbrev main_c_30 : Ref sig .tc := ⟨.hbm, 867, rfl⟩
abbrev main_call39_v0 : Ref sig .tc := ⟨.hbm, 868, rfl⟩
abbrev main_call39_v1 : Ref sig .tc := ⟨.hbm, 869, rfl⟩
abbrev main_v170 : Ref sig .tc := ⟨.hbm, 870, rfl⟩
abbrev main_c_31 : Ref sig .tc := ⟨.hbm, 871, rfl⟩
abbrev main_v171 : Ref sig .tc := ⟨.hbm, 872, rfl⟩
abbrev main_v172 : Ref sig .tc := ⟨.hbm, 873, rfl⟩
abbrev main_c_32 : Ref sig .tc := ⟨.hbm, 874, rfl⟩
abbrev main_call40_v0 : Ref sig .tc := ⟨.hbm, 875, rfl⟩
abbrev main_call40_v1 : Ref sig .tc := ⟨.hbm, 876, rfl⟩
abbrev main_v173 : Ref sig .tc := ⟨.hbm, 877, rfl⟩
abbrev main_c_33 : Ref sig .tc := ⟨.hbm, 878, rfl⟩
abbrev main_v174 : Ref sig .tc := ⟨.hbm, 879, rfl⟩
abbrev main_v175 : Ref sig .tc := ⟨.hbm, 880, rfl⟩
abbrev main_c_34 : Ref sig .tc := ⟨.hbm, 881, rfl⟩
abbrev main_call41_v0 : Ref sig .tc := ⟨.hbm, 882, rfl⟩
abbrev main_call41_v1 : Ref sig .tc := ⟨.hbm, 883, rfl⟩
abbrev main_v176 : Ref sig .tc := ⟨.hbm, 884, rfl⟩
abbrev main_c_35 : Ref sig .tc := ⟨.hbm, 885, rfl⟩
abbrev main_v177 : Ref sig .tc := ⟨.hbm, 886, rfl⟩
abbrev main_v178 : Ref sig .tc := ⟨.hbm, 887, rfl⟩
abbrev main_c_36 : Ref sig .tc := ⟨.hbm, 888, rfl⟩
abbrev main_call42_v0 : Ref sig .tc := ⟨.hbm, 889, rfl⟩
abbrev main_call42_v1 : Ref sig .tc := ⟨.hbm, 890, rfl⟩
abbrev main_v179 : Ref sig .tc := ⟨.hbm, 891, rfl⟩
abbrev main_c_37 : Ref sig .tc := ⟨.hbm, 892, rfl⟩
abbrev main_v180 : Ref sig .tc := ⟨.hbm, 893, rfl⟩
abbrev main_v181 : Ref sig .tc := ⟨.hbm, 894, rfl⟩
abbrev main_c_38 : Ref sig .tc := ⟨.hbm, 895, rfl⟩
abbrev main_call43_v0 : Ref sig .tc := ⟨.hbm, 896, rfl⟩
abbrev main_call43_v1 : Ref sig .tc := ⟨.hbm, 897, rfl⟩
abbrev main_v182 : Ref sig .tc := ⟨.hbm, 898, rfl⟩
abbrev main_c_39 : Ref sig .tc := ⟨.hbm, 899, rfl⟩
abbrev main_v183 : Ref sig .tc := ⟨.hbm, 900, rfl⟩
abbrev main_v184 : Ref sig .tc := ⟨.hbm, 901, rfl⟩
abbrev main_c_40 : Ref sig .tc := ⟨.hbm, 902, rfl⟩
abbrev main_call44_v0 : Ref sig .tc := ⟨.hbm, 903, rfl⟩
abbrev main_call44_v1 : Ref sig .tc := ⟨.hbm, 904, rfl⟩
abbrev main_v185 : Ref sig .tc := ⟨.hbm, 905, rfl⟩
abbrev main_c_41 : Ref sig .tc := ⟨.hbm, 906, rfl⟩
abbrev main_c_42 : Ref sig .tc := ⟨.hbm, 907, rfl⟩
abbrev main_call45_v0 : Ref sig .tc := ⟨.hbm, 908, rfl⟩
abbrev main_call45_v1 : Ref sig .tc := ⟨.hbm, 909, rfl⟩
abbrev main_call45_v2 : Ref sig .tc := ⟨.hbm, 910, rfl⟩
abbrev main_call45_v3 : Ref sig .tc := ⟨.hbm, 911, rfl⟩
abbrev main_call45_v4 : Ref sig .tc := ⟨.hbm, 912, rfl⟩
abbrev main_v186 : Ref sig .tc := ⟨.hbm, 913, rfl⟩
abbrev main_call46_c : Ref sig .tc := ⟨.hbm, 914, rfl⟩
abbrev main_call46_v0 : Ref sig .tc := ⟨.hbm, 915, rfl⟩
abbrev main_call46_v1 : Ref sig .tc := ⟨.hbm, 916, rfl⟩
abbrev main_call46_c_0 : Ref sig .tc := ⟨.hbm, 917, rfl⟩
abbrev main_call46_v2 : Ref sig .tc := ⟨.hbm, 918, rfl⟩
abbrev main_call46_v3 : Ref sig .tc := ⟨.hbm, 919, rfl⟩
abbrev main_call46_v4 : Ref sig .tc := ⟨.hbm, 920, rfl⟩
abbrev main_call46_v5 : Ref sig .tc := ⟨.hbm, 921, rfl⟩
abbrev main_call46_c_1 : Ref sig .tc := ⟨.hbm, 922, rfl⟩
abbrev main_call46_c_2 : Ref sig .tc := ⟨.hbm, 923, rfl⟩
abbrev main_call46_v6 : Ref sig .tc := ⟨.hbm, 924, rfl⟩
abbrev main_call46_v7 : Ref sig .tc := ⟨.hbm, 925, rfl⟩
abbrev main_call46_v8 : Ref sig .tc := ⟨.hbm, 926, rfl⟩
abbrev main_call46_v9 : Ref sig .tc := ⟨.hbm, 927, rfl⟩
abbrev main_call46_v10 : Ref sig .tc := ⟨.hbm, 928, rfl⟩
abbrev main_call46_v11 : Ref sig .tc := ⟨.hbm, 929, rfl⟩
abbrev main_call46_c_3 : Ref sig .tc := ⟨.hbm, 930, rfl⟩
abbrev main_call46_v12 : Ref sig .tc := ⟨.hbm, 931, rfl⟩
abbrev main_call46_v13 : Ref sig .tc := ⟨.hbm, 932, rfl⟩
abbrev main_call46_v14 : Ref sig .tc := ⟨.hbm, 933, rfl⟩
abbrev main_call46_cst : Ref sig .tc := ⟨.hbm, 934, rfl⟩
abbrev main_call46_v15 : Ref sig .tc := ⟨.hbm, 935, rfl⟩
abbrev main_v187 : Ref sig .tc := ⟨.hbm, 936, rfl⟩
abbrev main_v188 : Ref sig .tc := ⟨.hbm, 937, rfl⟩
abbrev main_v189 : Ref sig .tc := ⟨.hbm, 938, rfl⟩
abbrev main_v190 : Ref sig .tc := ⟨.hbm, 939, rfl⟩
abbrev main_c_43 : Ref sig .tc := ⟨.hbm, 940, rfl⟩
abbrev main_c_44 : Ref sig .tc := ⟨.hbm, 941, rfl⟩
abbrev main_call47_v0 : Ref sig .tc := ⟨.hbm, 942, rfl⟩
abbrev main_call47_v1 : Ref sig .tc := ⟨.hbm, 943, rfl⟩
abbrev main_call47_v2 : Ref sig .tc := ⟨.hbm, 944, rfl⟩
abbrev main_call47_v3 : Ref sig .tc := ⟨.hbm, 945, rfl⟩
abbrev main_call47_v4 : Ref sig .tc := ⟨.hbm, 946, rfl⟩
abbrev main_v191 : Ref sig .tc := ⟨.hbm, 947, rfl⟩
abbrev main_call48_c : Ref sig .tc := ⟨.hbm, 948, rfl⟩
abbrev main_call48_v0 : Ref sig .tc := ⟨.hbm, 949, rfl⟩
abbrev main_call48_v1 : Ref sig .tc := ⟨.hbm, 950, rfl⟩
abbrev main_call48_c_0 : Ref sig .tc := ⟨.hbm, 951, rfl⟩
abbrev main_call48_v2 : Ref sig .tc := ⟨.hbm, 952, rfl⟩
abbrev main_call48_v3 : Ref sig .tc := ⟨.hbm, 953, rfl⟩
abbrev main_call48_v4 : Ref sig .tc := ⟨.hbm, 954, rfl⟩
abbrev main_call48_v5 : Ref sig .tc := ⟨.hbm, 955, rfl⟩
abbrev main_call48_c_1 : Ref sig .tc := ⟨.hbm, 956, rfl⟩
abbrev main_call48_c_2 : Ref sig .tc := ⟨.hbm, 957, rfl⟩
abbrev main_call48_v6 : Ref sig .tc := ⟨.hbm, 958, rfl⟩
abbrev main_call48_v7 : Ref sig .tc := ⟨.hbm, 959, rfl⟩
abbrev main_call48_v8 : Ref sig .tc := ⟨.hbm, 960, rfl⟩
abbrev main_call48_v9 : Ref sig .tc := ⟨.hbm, 961, rfl⟩
abbrev main_call48_v10 : Ref sig .tc := ⟨.hbm, 962, rfl⟩
abbrev main_call48_v11 : Ref sig .tc := ⟨.hbm, 963, rfl⟩
abbrev main_call48_c_3 : Ref sig .tc := ⟨.hbm, 964, rfl⟩
abbrev main_call48_v12 : Ref sig .tc := ⟨.hbm, 965, rfl⟩
abbrev main_call48_v13 : Ref sig .tc := ⟨.hbm, 966, rfl⟩
abbrev main_call48_v14 : Ref sig .tc := ⟨.hbm, 967, rfl⟩
abbrev main_call48_cst : Ref sig .tc := ⟨.hbm, 968, rfl⟩
abbrev main_call48_v15 : Ref sig .tc := ⟨.hbm, 969, rfl⟩
abbrev main_v192 : Ref sig .tc := ⟨.hbm, 970, rfl⟩
abbrev main_v193 : Ref sig .tc := ⟨.hbm, 971, rfl⟩
abbrev main_v194 : Ref sig .tc := ⟨.hbm, 972, rfl⟩
abbrev main_v195 : Ref sig .tc := ⟨.hbm, 973, rfl⟩
abbrev main_c_45 : Ref sig .tc := ⟨.hbm, 974, rfl⟩
abbrev main_c_46 : Ref sig .tc := ⟨.hbm, 975, rfl⟩
abbrev main_call49_v0 : Ref sig .tc := ⟨.hbm, 976, rfl⟩
abbrev main_call49_v1 : Ref sig .tc := ⟨.hbm, 977, rfl⟩
abbrev main_call49_v2 : Ref sig .tc := ⟨.hbm, 978, rfl⟩
abbrev main_call49_v3 : Ref sig .tc := ⟨.hbm, 979, rfl⟩
abbrev main_call49_v4 : Ref sig .tc := ⟨.hbm, 980, rfl⟩
abbrev main_v196 : Ref sig .tc := ⟨.hbm, 981, rfl⟩
abbrev main_call50_c : Ref sig .tc := ⟨.hbm, 982, rfl⟩
abbrev main_call50_v0 : Ref sig .tc := ⟨.hbm, 983, rfl⟩
abbrev main_call50_v1 : Ref sig .tc := ⟨.hbm, 984, rfl⟩
abbrev main_call50_c_0 : Ref sig .tc := ⟨.hbm, 985, rfl⟩
abbrev main_call50_v2 : Ref sig .tc := ⟨.hbm, 986, rfl⟩
abbrev main_call50_v3 : Ref sig .tc := ⟨.hbm, 987, rfl⟩
abbrev main_call50_v4 : Ref sig .tc := ⟨.hbm, 988, rfl⟩
abbrev main_call50_v5 : Ref sig .tc := ⟨.hbm, 989, rfl⟩
abbrev main_call50_c_1 : Ref sig .tc := ⟨.hbm, 990, rfl⟩
abbrev main_call50_c_2 : Ref sig .tc := ⟨.hbm, 991, rfl⟩
abbrev main_call50_v6 : Ref sig .tc := ⟨.hbm, 992, rfl⟩
abbrev main_call50_v7 : Ref sig .tc := ⟨.hbm, 993, rfl⟩
abbrev main_call50_v8 : Ref sig .tc := ⟨.hbm, 994, rfl⟩
abbrev main_call50_v9 : Ref sig .tc := ⟨.hbm, 995, rfl⟩
abbrev main_call50_v10 : Ref sig .tc := ⟨.hbm, 996, rfl⟩
abbrev main_call50_v11 : Ref sig .tc := ⟨.hbm, 997, rfl⟩
abbrev main_call50_c_3 : Ref sig .tc := ⟨.hbm, 998, rfl⟩
abbrev main_call50_v12 : Ref sig .tc := ⟨.hbm, 999, rfl⟩
abbrev main_call50_v13 : Ref sig .tc := ⟨.hbm, 1000, rfl⟩
abbrev main_call50_v14 : Ref sig .tc := ⟨.hbm, 1001, rfl⟩
abbrev main_call50_cst : Ref sig .tc := ⟨.hbm, 1002, rfl⟩
abbrev main_call50_v15 : Ref sig .tc := ⟨.hbm, 1003, rfl⟩
abbrev main_v197 : Ref sig .tc := ⟨.hbm, 1004, rfl⟩
abbrev main_v198 : Ref sig .tc := ⟨.hbm, 1005, rfl⟩
abbrev main_v199 : Ref sig .tc := ⟨.hbm, 1006, rfl⟩
abbrev main_v200 : Ref sig .tc := ⟨.hbm, 1007, rfl⟩
abbrev main_v201 : Ref sig .tc := ⟨.hbm, 1008, rfl⟩
abbrev main_v202 : Ref sig .tc := ⟨.hbm, 1009, rfl⟩
abbrev main_v203 : Ref sig .tc := ⟨.hbm, 1010, rfl⟩
abbrev main_v204 : Ref sig .tc := ⟨.hbm, 1011, rfl⟩

abbrev nD : Nat := 1
abbrev τ : Topo := Topo.v7x

variable {F : FTy → Type} [FloatOps F]
-- ==== Proof.Scatter.lean ====
/-
  Setting part of an array, read at one entry. jnp's `x.at[lo : lo + n].set(v)` of a vector, `x.at[i, lo : lo + n].set(v)`
  of one row of a matrix and `x.at[i : i + h, lo : lo + n].set(v)` of a rectangle each print as one scatter at one start;
  an entry inside the written part is the new value, and any other entry is what it was. No program is named here.
-/
module

public import Idealize.ShloMosaic.Lib.Routing.OpsOne

@[expose] public section

noncomputable section

namespace Cert.Atoms

open Idealize.ShloMosaic Idealize.ShloMosaic.Routing Idealize.ShloMosaic.ValueIdx

/-- A segment of a vector set: inside the segment the new value, outside it the old one. -/
theorem set_segment {α : Type} {N n : Nat} (d : ScatterDims (shape1 N) (shape1 1) (shape1 n)) (hi : d.insertedWindowDims = [])
    (hs : d.scatterDimsToOperandDims = [0]) (hv : d.indexVectorDim = 0) (x : (shape1 N).Idx → α) (idx : IVec (shape1 1) 32)
    (u : (shape1 n).Idx → α) (lo : Nat) (hlo : (idx (ix1 (0 : Fin 1))).toInt = lo) (j : Fin N) :
    Host.scatter d (fun _ b => b) x idx u (ix1 j)
      = if h : lo ≤ j.val ∧ j.val < lo + n then u (ix1 ⟨j.val - lo, by omega⟩) else x (ix1 j) := by
  have lands : ∀ k : (shape1 n).Idx, d.resultIdx? k idx = some (ix1 j) ↔ lo + (k 0).val = j.val := fun k => by
    have hstart : d.start k idx 0 = lo := by
      have hm : (0 : Fin 1) ∈ d.scatterDimsToOperandDims := by rw [hs]; exact List.mem_singleton.2 rfl
      unfold ScatterDims.start
      rw [dif_pos hm, ← hlo]
      exact congrArg (fun e => (idx e).toInt) ((eq_ix1 _).trans (congrArg ix1 (Subsingleton.elim (α := Fin 1) _ _)))
    have hwin : d.window k 0 = (k 0).val := by
      have hk : (0 : Fin 1) ∈ d.sKept := List.mem_filter.2 ⟨List.mem_finRange _, by rw [hi]; rfl⟩
      unfold ScatterDims.window
      rw [dif_pos hk]
      exact congrArg (fun t => (k t).val) (Subsingleton.elim (α := Fin 1) _ 0)
    rw [resultIdx?_ix1, hstart, hwin]
    omega
  by_cases h : lo ≤ j.val ∧ j.val < lo + n
  · rw [dif_pos h]
    refine scatter_set_hit d x idx u _ _ (fun k hk => ?_) (ix1 ⟨j.val - lo, by omega⟩) ((lands _).2 (by show lo + (j.val - lo) = j.val; omega))
    rw [eq_ix1 k]
    have := (lands k).1 hk
    exact congrArg (fun e => u (ix1 e)) (Fin.ext (by show (k 0).val = j.val - lo; omega))
  · rw [dif_neg h]
    refine scatter_set_miss d x idx u _ fun k hk => h ?_
    have := (lands k).1 hk
    have hlt : (k 0).val < n := (k 0).isLt
    omega

/-- A segment of one row of a matrix set: inside it the new value, outside it the old one. -/
theorem set_row {α : Type} {R C n : Nat} (d : ScatterDims (shape2 R C) (shape1 2) (shape1 n)) (hi : d.insertedWindowDims = [0])
    (hs : d.scatterDimsToOperandDims = [0, 1]) (hv : d.indexVectorDim = 0) (x : (shape2 R C).Idx → α) (idx : IVec (shape1 2) 32)
    (u : (shape1 n).Idx → α) (i lo : Nat) (h0 : (idx (ix1 (0 : Fin 2))).toInt = i) (h1 : (idx (ix1 (1 : Fin 2))).toInt = lo)
    (r : Fin R) (c : Fin C) :
    Host.scatter d (fun _ b => b) x idx u (ix2 r c)
      = if h : r.val = i ∧ lo ≤ c.val ∧ c.val < lo + n then u (ix1 ⟨c.val - lo, by omega⟩) else x (ix2 r c) := by
  have lands : ∀ k : (shape1 n).Idx, d.resultIdx? k idx = some (ix2 r c) ↔ i = r.val ∧ lo + (k 0).val = c.val := fun k => by
    have hwin0 : d.window k 0 = 0 := by
      unfold ScatterDims.window
      rw [dif_neg fun h => (of_decide_eq_true (List.mem_filter.1 h).2) (by rw [hi]; simp)]
    have hwin1 : d.window k 1 = (k 0).val := by
      have hk : (1 : Fin 2) ∈ d.sKept := List.mem_filter.2 ⟨List.mem_finRange _, by rw [hi]; rfl⟩
      unfold ScatterDims.window
      rw [dif_pos hk]
      exact congrArg (fun t => (k t).val) (Subsingleton.elim (α := Fin 1) _ 0)
    rw [resultIdx?_ix2, start_pair d hs hv, start_pair d hs hv, hwin0, hwin1, h0, h1]
    omega
  by_cases h : r.val = i ∧ lo ≤ c.val ∧ c.val < lo + n
  · rw [dif_pos h]
    refine scatter_set_hit d x idx u _ _ (fun k hk => ?_) (ix1 ⟨c.val - lo, by omega⟩)
      ((lands _).2 ⟨h.1.symm, by show lo + (c.val - lo) = c.val; omega⟩)
    rw [eq_ix1 k]
    have := (lands k).1 hk
    exact congrArg (fun e => u (ix1 e)) (Fin.ext (by show (k 0).val = c.val - lo; omega))
  · rw [dif_neg h]
    refine scatter_set_miss d x idx u _ fun k hk => h ?_
    have := (lands k).1 hk
    have hlt : (k 0).val < n := (k 0).isLt
    omega

/-- A rectangle of a matrix set: inside it the new value, outside it the old one. -/
theorem set_rectangle {α : Type} {R C a n : Nat} (d : ScatterDims (shape2 R C) (shape1 2) (shape2 a n)) (hi : d.insertedWindowDims = [])
    (hu : d.updateWindowDims = [0, 1]) (hs : d.scatterDimsToOperandDims = [0, 1]) (hv : d.indexVectorDim = 0)
    (x : (shape2 R C).Idx → α) (idx : IVec (shape1 2) 32) (u : (shape2 a n).Idx → α) (i lo : Nat)
    (h0 : (idx (ix1 (0 : Fin 2))).toInt = i) (h1 : (idx (ix1 (1 : Fin 2))).toInt = lo) (r : Fin R) (c : Fin C) :
    Host.scatter d (fun _ b => b) x idx u (ix2 r c)
      = if h : (i ≤ r.val ∧ r.val < i + a) ∧ lo ≤ c.val ∧ c.val < lo + n
        then u (ix2 ⟨r.val - i, by omega⟩ ⟨c.val - lo, by omega⟩) else x (ix2 r c) := by
  have hkept : d.sKept = [0, 1] := by
    show (shape2 R C).kept d.insertedWindowDims = _
    rw [hi]
    rfl
  have hwin : ∀ (k : (shape2 a n).Idx) (q : Fin 2), d.window k q = (k q).val := fun k q => by
    have hk : q ∈ d.sKept := by rw [hkept]; fin_cases q <;> simp
    unfold ScatterDims.window
    rw [dif_pos hk]
    refine congrArg (fun t => (k t).val) ?_
    simp only [hu, hkept]
    fin_cases q <;> rfl
  have lands : ∀ k : (shape2 a n).Idx, d.resultIdx? k idx = some (ix2 r c) ↔ i + (k 0).val = r.val ∧ lo + (k 1).val = c.val := fun k => by
    rw [resultIdx?_ix2, start_pair d hs hv, start_pair d hs hv, hwin, hwin, h0, h1]
    omega
  by_cases h : (i ≤ r.val ∧ r.val < i + a) ∧ lo ≤ c.val ∧ c.val < lo + n
  · rw [dif_pos h]
    refine scatter_set_hit d x idx u _ _ (fun k hk => ?_) (ix2 ⟨r.val - i, by omega⟩ ⟨c.val - lo, by omega⟩)
      ((lands _).2 ⟨by show i + (r.val - i) = r.val; omega, by show lo + (c.val - lo) = c.val; omega⟩)
    rw [eq_ix2 k]
    have := (lands k).1 hk
    exact congrArg₂ (fun e f => u (ix2 e f)) (Fin.ext (by show (k 0).val = r.val - i; omega)) (Fin.ext (by show (k 1).val = c.val - lo; omega))
  · rw [dif_neg h]
    refine scatter_set_miss d x idx u _ fun k hk => h ?_
    have := (lands k).1 hk
    have hlt0 : (k 0).val < a := (k 0).isLt
    have hlt1 : (k 1).val < n := (k 1).isLt
    omega

end Cert.Atoms

end
-- ==== Proof.KernelHost.lean ====
/-
  The matrix and the vector the kernel folds the tables and weights into before its one launch, written as what sets them
  part by part: one segment of the vector and one row segment or rectangle of the matrix per group of columns.
-/
module

public import proofs.«01_k».proof.Proof.Gen.KernelIdeal.Frame
public import proofs.«01_k».proof.Proof.Scatter
public import Idealize.ShloMosaic.Lib.StableHlo.RunRead
public import Idealize.ShloMosaic.PureOps.Ideal.Laws

@[expose] public section

set_option maxRecDepth 4096

noncomputable section

namespace Cert.Atoms.Ker

open Idealize.ShloMosaic Idealize.ShloMosaic.Routing Idealize.ShloMosaic.ValueIdx Idealize.ShloMosaic.StableHlo
open Cert.KernelIdeal Cert.KernelIdeal.Gen

/-- Four entries of the vector set from `lo` on. -/
def seg4 (lo : Nat) (x : FVec Ideal S64 .f32) (u : FVec Ideal S4 .f32) : FVec Ideal S64 .f32 :=
  Host.scatter scatter_S64_S1_S4_0_n_0_0 (fun _ b => b) x (broadcastInDim S1 ![] bcast_S_S1 (constantI S_ 32 (BitVec.ofNat 32 lo))) u

/-- Two entries of the vector set from `lo` on. -/
def seg2 (lo : Nat) (x : FVec Ideal S64 .f32) (u : FVec Ideal S2 .f32) : FVec Ideal S64 .f32 :=
  Host.scatter scatter_S64_S1_S2_0_n_0_0 (fun _ b => b) x (broadcastInDim S1 ![] bcast_S_S1 (constantI S_ 32 (BitVec.ofNat 32 lo))) u

/-- Sixteen entries of the vector set from `lo` on. -/
def seg16 (lo : Nat) (x : FVec Ideal S64 .f32) (u : FVec Ideal S16 .f32) : FVec Ideal S64 .f32 :=
  Host.scatter scatter_S64_S1_S16_0_n_0_0 (fun _ b => b) x (broadcastInDim S1 ![] bcast_S_S1 (constantI S_ 32 (BitVec.ofNat 32 lo))) u

/-- The place in the matrix a part is set at. -/
def place (i lo : Nat) : IVec S2 32 :=
  concatenate S2 0 [⟨S1, broadcastInDim S1 ![] bcast_S_S1 (constantI S_ 32 (BitVec.ofNat 32 i))⟩, ⟨S1, broadcastInDim S1 ![] bcast_S_S1 (constantI S_ 32 (BitVec.ofNat 32 lo))⟩]
    concatenates_S1_S1_S2_d0

/-- Four entries of row `i` of the matrix set from column `lo` on. -/
def row4 (i lo : Nat) (x : FVec Ideal S78x64 .f32) (u : FVec Ideal S4 .f32) : FVec Ideal S78x64 .f32 :=
  Host.scatter scatter_S78x64_S2_S4_0_0_01_0 (fun _ b => b) x (place i lo) u

/-- Two entries of row `i` of the matrix set from column `lo` on. -/
def row2 (i lo : Nat) (x : FVec Ideal S78x64 .f32) (u : FVec Ideal S2 .f32) : FVec Ideal S78x64 .f32 :=
  Host.scatter scatter_S78x64_S2_S2_0_0_01_0 (fun _ b => b) x (place i lo) u

/-- A rectangle of eighteen rows and four columns of the matrix set from `(i, lo)` on. -/
def rect18 (i lo : Nat) (x : FVec Ideal S78x64 .f32) (u : FVec Ideal S18x4 .f32) : FVec Ideal S78x64 .f32 :=
  Host.scatter scatter_S78x64_S2_S18x4_01_n_01_0 (fun _ b => b) x (place i lo) u

/-- A rectangle of forty-eight rows and sixteen columns of the matrix set from `(i, lo)` on. -/
def rect48 (i lo : Nat) (x : FVec Ideal S78x64 .f32) (u : FVec Ideal S48x16 .f32) : FVec Ideal S78x64 .f32 :=
  Host.scatter scatter_S78x64_S2_S48x16_01_n_01_0 (fun _ b => b) x (place i lo) u

/-- Row `k` of a table of four columns. -/
def line4 {n : Nat} (k : Nat) (t : FVec Ideal (shape2 n 4) .f32) (h : (shape2 n 4).Slices ![k, 0] S1x4) : FVec Ideal S4 .f32 :=
  shapeCast S4 (extractStridedSlice S1x4 ![k, 0] t h) shapeCasts_S1x4_S4

/-- Row `k` of a table of two columns. -/
def line2 {n : Nat} (k : Nat) (t : FVec Ideal (shape2 n 2) .f32) (h : (shape2 n 2).Slices ![k, 0] S1x2) : FVec Ideal S2 .f32 :=
  shapeCast S2 (extractStridedSlice S1x2 ![k, 0] t h) shapeCasts_S1x2_S2

variable (V0 : Valuation τ sig (Elt Ideal))

/-- The flags' rows 0, one after another. -/
def flags0 : FVec Ideal S18x2 .f32 :=
  shapeCast S18x2 (extractStridedSlice S18x1x2 ![0, 0, 0] (V0 (Proc.devRef .tc main_arg8)) slices_S18x2x2_S18x1x2_0_0_0) shapeCasts_S18x1x2_S18x2

/-- The flags' rows 1, one after another. -/
def flags1 : FVec Ideal S18x2 .f32 :=
  shapeCast S18x2 (extractStridedSlice S18x1x2 ![0, 1, 0] (V0 (Proc.devRef .tc main_arg8)) slices_S18x2x2_S18x1x2_0_1_0) shapeCasts_S18x1x2_S18x2

/-- What the flags add when every feature is zero: their rows 0 against the weights, and the bias. -/
def flagsBase : FVec Ideal S4 .f32 :=
  addf (Host.dotGeneral (φ₂ := .f32) dot_S36_S36x4_S4_0_0_n_1_n_n none (shapeCast S36 (flags0 V0) shapeCasts_S18x2_S36)
    (transpose S36x4 [1, 0] (V0 (Proc.devRef .tc main_arg14) : FVec Ideal S4x36 .f32) transposes_S4x36_S36x4_1_0))
    (V0 (Proc.devRef .tc main_arg15))

/-- What each flag's feature adds: the difference of its two rows against the weights. -/
def flagsStep : FVec Ideal S18x4 .f32 :=
  Host.dotGeneral (φ₂ := .f32) dot_S18x2_S4x18x2_S18x4_1_2_n_0_0_1 none (subf (flags1 V0) (flags0 V0))
    (shapeCast S4x18x2 (V0 (Proc.devRef .tc main_arg14) : FVec Ideal S4x36 .f32) shapeCasts_S4x36_S4x18x2)

/-- The vector: what every row of the result starts from. -/
def vec : FVec Ideal S64 .f32 :=
  seg16 48 (seg4 44 (seg4 40 (seg4 36 (seg2 34 (seg2 32 (seg4 28 (seg4 24 (seg4 20 (seg4 16 (seg4 12 (seg4 8
    (seg4 4 (seg4 0 (broadcastInDim S64 ![] bcast_S_S64 (constant S_ .f32 0x00000000#32))
      (line4 0 (V0 (Proc.devRef .tc main_arg1)) slices_S7x4_S1x4_0_0))
      (line4 0 (V0 (Proc.devRef .tc main_arg2)) slices_S7x4_S1x4_0_0))
      (line4 1 (V0 (Proc.devRef .tc main_arg3)) slices_S2x4_S1x4_1_0))
      (line4 0 (V0 (Proc.devRef .tc main_arg4)) slices_S8x4_S1x4_0_0))
      (line4 0 (V0 (Proc.devRef .tc main_arg5)) slices_S2x4_S1x4_0_0))
      (line4 0 (V0 (Proc.devRef .tc main_arg6)) slices_S6x4_S1x4_0_0))
      (line4 0 (V0 (Proc.devRef .tc main_arg7)) slices_S5x4_S1x4_0_0))
      (flagsBase V0))
      (line2 0 (V0 (Proc.devRef .tc main_arg9)) slices_S2x2_S1x2_0_0))
      (line2 0 (V0 (Proc.devRef .tc main_arg10)) slices_S2x2_S1x2_0_0))
      (line4 0 (V0 (Proc.devRef .tc main_arg11)) slices_S7x4_S1x4_0_0))
      (line4 0 (V0 (Proc.devRef .tc main_arg12)) slices_S5x4_S1x4_0_0))
      (line4 0 (V0 (Proc.devRef .tc main_arg13)) slices_S8x4_S1x4_0_0))
      (V0 (Proc.devRef .tc main_arg17))

/-- The matrix: what each feature adds. -/
def mat : FVec Ideal S78x64 .f32 :=
  rect48 30 48
    (row4 29 44 (row4 28 40 (row4 27 36 (row2 26 34 (row2 25 32
    (rect18 7 28
      (row4 6 24 (row4 3 20 (row4 4 16 (row4 2 12 (row4 1 4
      (broadcastInDim S78x64 ![] bcast_S_S78x64 (constant S_ .f32 0x00000000#32))
      (subf (line4 1 (V0 (Proc.devRef .tc main_arg2)) slices_S7x4_S1x4_1_0) (line4 0 (V0 (Proc.devRef .tc main_arg2)) slices_S7x4_S1x4_0_0)))
      (subf (line4 1 (V0 (Proc.devRef .tc main_arg4)) slices_S8x4_S1x4_1_0) (line4 0 (V0 (Proc.devRef .tc main_arg4)) slices_S8x4_S1x4_0_0)))
      (subf (line4 1 (V0 (Proc.devRef .tc main_arg5)) slices_S2x4_S1x4_1_0) (line4 0 (V0 (Proc.devRef .tc main_arg5)) slices_S2x4_S1x4_0_0)))
      (subf (line4 1 (V0 (Proc.devRef .tc main_arg6)) slices_S6x4_S1x4_1_0) (line4 0 (V0 (Proc.devRef .tc main_arg6)) slices_S6x4_S1x4_0_0)))
      (subf (line4 1 (V0 (Proc.devRef .tc main_arg7)) slices_S5x4_S1x4_1_0) (line4 0 (V0 (Proc.devRef .tc main_arg7)) slices_S5x4_S1x4_0_0)))
      (flagsStep V0))
      (subf (line2 1 (V0 (Proc.devRef .tc main_arg9)) slices_S2x2_S1x2_1_0) (line2 0 (V0 (Proc.devRef .tc main_arg9)) slices_S2x2_S1x2_0_0)))
      (subf (line2 1 (V0 (Proc.devRef .tc main_arg10)) slices_S2x2_S1x2_1_0) (line2 0 (V0 (Proc.devRef .tc main_arg10)) slices_S2x2_S1x2_0_0)))
      (subf (line4 6 (V0 (Proc.devRef .tc main_arg11)) slices_S7x4_S1x4_6_0) (line4 0 (V0 (Proc.devRef .tc main_arg11)) slices_S7x4_S1x4_0_0)))
      (subf (line4 1 (V0 (Proc.devRef .tc main_arg12)) slices_S5x4_S1x4_1_0) (line4 0 (V0 (Proc.devRef .tc main_arg12)) slices_S5x4_S1x4_0_0)))
      (subf (line4 1 (V0 (Proc.devRef .tc main_arg13)) slices_S8x4_S1x4_1_0) (line4 0 (V0 (Proc.devRef .tc main_arg13)) slices_S8x4_S1x4_0_0)))
    (transpose S48x16 [1, 0] (V0 (Proc.devRef .tc main_arg16) : FVec Ideal S16x48 .f32) transposes_S16x48_S48x16_1_0)

set_option maxHeartbeats 4000000 in
/-- The operations before the launch leave the vector, as one row. -/
theorem host_vec : after (hostOps0 ++ hostOps0_1) V0 (Proc.devRef .tc main_call0_v0) = shapeCast S1x64 (vec V0) shapeCasts_S64_S1x64 := by
  after_reads_simp
  rfl

set_option maxHeartbeats 4000000 in
/-- The operations before the launch leave the matrix. -/
theorem host_mat : after (hostOps0 ++ hostOps0_1) V0 (Proc.devRef .tc main_v165) = mat V0 := by
  after_reads_simp
  rfl

end Cert.Atoms.Ker
-- ==== Proof.Lookup.lean ====
/-
  Looking a row of a small table up, as jnp.take prints it: a gather at the wrapped index, masked by a test that the index
  lies within the table. Where every index is in range the mask never bites, and the entry is the table's.
  Beside it, the re-indexings around the lookups. No program is named here.
-/
module

public import Idealize.ShloMosaic.Lib.Routing.OpsSet
public import Idealize.ShloMosaic.Lib.Routing.OpsPair
public import Idealize.ShloMosaic.Lib.Pipeline.Value
public import Idealize.ShloMosaic.Lib.ReduceAll
public import Idealize.ShloMosaic.Lib.Affine
public import Idealize.ShloMosaic.PureOps

@[expose] public section

noncomputable section

namespace Cert.Atoms

open Idealize.ShloMosaic Idealize.ShloMosaic.Routing Idealize.ShloMosaic.ValueIdx

/-- A block of a matrix read at `(i, j)` is the matrix at the block's corner plus `(i, j)`. -/
theorem block_at {α : Type} {a b a' b' : Nat} (o p : Nat) (x : (shape2 a b).Idx → α) (h : (shape2 a b).Slices ![o, p] (shape2 a' b'))
    (i : Fin a') (j : Fin b') (i' : Fin a) (j' : Fin b) (hi : i'.val = o + i.val) (hj : j'.val = p + j.val) :
    extractStridedSlice (shape2 a' b') ![o, p] x h (ix2 i j) = x (ix2 i' j') := by
  unfold extractStridedSlice
  refine congrArg x (funext fun c => Fin.ext ?_)
  match c with
  | ⟨0, _⟩ => exact hi.symm
  | ⟨1, _⟩ => exact hj.symm

/-- A block of a rank-three array read at `(i, j, l)`. -/
theorem block3_at {α : Type} {a b c a' b' c' : Nat} (o p q : Nat) (x : (shape3 a b c).Idx → α)
    (h : (shape3 a b c).Slices ![o, p, q] (shape3 a' b' c')) (i : Fin a') (j : Fin b') (l : Fin c') (i' : Fin a) (j' : Fin b) (l' : Fin c)
    (hi : i'.val = o + i.val) (hj : j'.val = p + j.val) (hl : l'.val = q + l.val) :
    extractStridedSlice (shape3 a' b' c') ![o, p, q] x h (ix3 i j l) = x (ix3 i' j' l') := by
  unfold extractStridedSlice
  refine congrArg x (funext fun d => Fin.ext ?_)
  match d with
  | ⟨0, _⟩ => exact hi.symm
  | ⟨1, _⟩ => exact hj.symm
  | ⟨2, _⟩ => exact hl.symm

/-- Column `k` of a matrix as a vector: its entry `r` is the matrix at `(r, k)`. -/
theorem column_at {α : Type} {a b : Nat} (k : Nat) (x : (shape2 a b).Idx → α) (h : (shape2 a b).Slices ![0, k] (shape2 a 1))
    (h' : (shape2 a 1).ShapeCasts (shape1 a)) (r : Fin a) (k' : Fin b) (hk : k'.val = k) :
    shapeCast (shape1 a) (extractStridedSlice (shape2 a 1) ![0, k] x h) h' (ix1 r) = x (ix2 r k') :=
  (cast21 _ h' r (0 : Fin 1) r (by simp)).trans (block_at 0 k x h r 0 r k' (by simp) (by simp [hk]))

/-- Row `k` of a matrix as a vector: its entry `c` is the matrix at `(k, c)`. -/
theorem row_at {α : Type} {a b : Nat} (k : Nat) (x : (shape2 a b).Idx → α) (h : (shape2 a b).Slices ![k, 0] (shape2 1 b))
    (h' : (shape2 1 b).ShapeCasts (shape1 b)) (c : Fin b) (k' : Fin a) (hk : k'.val = k) :
    shapeCast (shape1 b) (extractStridedSlice (shape2 1 b) ![k, 0] x h) h' (ix1 c) = x (ix2 k' c) :=
  (cast21 _ h' (0 : Fin 1) c c (by simp)).trans (block_at k 0 x h 0 c k' c (by simp [hk]) (by simp))

/-- Piece `k` of matrices joined along their columns: column `pre + j` of the whole is column `j` of the piece, where `pre`
    columns stand before it. -/
theorem piece_at {α : Type} {N C w : Nat} (xs : List ((s : Shape) × (s.Idx → α)))
    (h : Shape.Concatenates (xs.map (·.1)) (shape2 N C) 1) (k : Nat) (hk : k < xs.length) (x : (shape2 N w).Idx → α)
    (hx : xs[k] = ⟨shape2 N w, x⟩) (pre : Nat)
    (hpre : (((xs.take k).map (·.1)).map fun s => if h : s.rank = (shape2 N C).rank then s.size ((1 : Fin (shape2 N C).rank).cast h.symm) else 0).sum = pre)
    (r : Fin N) (j : Fin w) (c : Fin C) (hc : pre + j.val = c.val) :
    concatenate (shape2 N C) 1 xs h (ix2 r c) = x (ix2 r j) := by
  refine concatenate_apply_piece _ xs h (ix2 r c) k hk (shape2 N w) x hx rfl pre hpre (ix2 r j) (fun b hb => ?_) hc
  match b with
  | ⟨0, _⟩ => rfl
  | ⟨1, _⟩ => exact absurd rfl hb

/-- Matrices of one width joined along their columns, each known entry by entry: column `w * i + j` is column `j` of piece `i`. -/
theorem pieces_at {α : Type} {N C w n : Nat} (xs : List ((s : Shape) × (s.Idx → α)))
    (h : Shape.Concatenates (xs.map (·.1)) (shape2 N C) 1) (g : Fin n → Fin N → Fin w → α) (hlen : xs.length = n)
    (hx : ∀ i : Fin n, ∃ x : (shape2 N w).Idx → α, xs[i.val]'(hlen ▸ i.isLt) = ⟨shape2 N w, x⟩ ∧ ∀ r c, x (ix2 r c) = g i r c)
    (i : Fin n) (r : Fin N) (j : Fin w) (c : Fin C) (hc : w * i.val + j.val = c.val) :
    concatenate (shape2 N C) 1 xs h (ix2 r c) = g i r j := by
  obtain ⟨x, hxi, hg⟩ := hx i
  refine (piece_at xs h i.val (hlen ▸ i.isLt) x hxi (w * i.val) ?_ r j c hc).trans (hg r j)
  rw [List.map_map]
  have : (xs.take i.val).map ((fun s : Shape => if h : s.rank = (shape2 N C).rank then s.size ((1 : Fin (shape2 N C).rank).cast h.symm) else 0) ∘ (·.1))
      = List.replicate i.val w := by
    refine List.ext_getElem (by simp [hlen, i.isLt.le]) fun m h1 h2 => ?_
    have hm : m < n := lt_trans (by simpa using h2) i.isLt
    obtain ⟨y, hy, -⟩ := hx ⟨m, hm⟩
    rw [List.getElem_map, List.getElem_take, List.getElem_replicate]
    have hz : xs[m]'(hlen ▸ hm) = ⟨shape2 N w, y⟩ := hy
    rw [Function.comp_apply, hz]
    rfl
  rw [this, List.sum_replicate]
  simp [Nat.mul_comm]

/-- The wrapped index column of a lookup: an index that is not negative is left as it is. -/
theorem index_at {N : Nat} (v z n : IVec (shape1 N) 32) (hz : ∀ i, z i = 0#32)
    (h : (shape1 N).BroadcastsInDim (shape2 N 1) (![0] : Fin 1 → Fin (shape2 N 1).rank)) (r : Fin N) (b : Nat) (hb : b < 2 ^ 31)
    (hv : v (ix1 r) = BitVec.ofNat 32 b) :
    broadcastInDim (shape2 N 1) ![0] h (select (cmpi .slt v z) (addi v n) v) (ix2 r (0 : Fin 1)) = BitVec.ofNat 32 b := by
  rw [bcCol]
  show Scalar.select (IntOp.cmpi .slt (v (ix1 r)) (z (ix1 r))) _ (v (ix1 r)) = _
  rw [hz, wrap_of_lt _ _ (by rw [hv, BitVec.toNat_ofNat, Nat.mod_eq_of_lt (by omega)]; exact hb), hv]

/-- The test that an index lies within the table, where every index does: it holds in every row. -/
theorem mask_at {N w : Nat} (n : Nat) (hn : n < 2 ^ 31) (I lo hi : IVec (shape2 N 1) 32) (f : Fin N → Nat)
    (hI : ∀ r, I (ix2 r (0 : Fin 1)) = BitVec.ofNat 32 (f r)) (hf : ∀ r, f r ≤ n) (hlo : ∀ i, lo i = 0#32)
    (hhi : ∀ i, hi i = BitVec.ofNat 32 n) {axes : List (Fin 2)} (hr : (shape2 N 1).ReducesTo axes (shape1 N))
    (init : IVec shape0 1) (hu : 0 < shape0.numel) (hinit : init (Shape.Idx.first hu) = 1#1)
    (hb : (shape1 N).BroadcastsInDim (shape2 N w) (![0] : Fin 1 → Fin (shape2 N w).rank)) (r : Fin N) (j : Fin w) :
    broadcastInDim (shape2 N w) ![0] hb (Host.reduce IntOp.andi (andi (cmpi .sge I lo) (cmpi .sle I hi)) init hr hu) (ix2 r j) = 1#1 := by
  have all : ∀ i, andi (cmpi .sge I lo) (cmpi .sle I hi) i = 1#1 := fun i => by
    obtain ⟨p, rfl⟩ : ∃ p : Fin N, i = ix2 p (0 : Fin 1) :=
      ⟨i 0, (eq_ix2 i).trans (congrArg (ix2 (i 0)) (Subsingleton.elim (α := Fin 1) _ _))⟩
    have key : ∀ a : Nat, a ≤ n → (BitVec.ofNat 32 a).toInt = a := fun a ha => StableHlo.Predicate.toInt_ofNat_small a (by omega)
    show IntOp.andi (IntOp.cmpi .sge (I (ix2 p 0)) (lo _)) (IntOp.cmpi .sle (I (ix2 p 0)) (hi _)) = 1#1
    rw [hlo, hhi, hI]
    have h1 : IntOp.cmpi .sge (BitVec.ofNat 32 (f p)) 0#32 = 1#1 := IntOp.cmpi_sge.2 (by
      rw [key _ (hf _)]; exact (Int.natCast_nonneg _))
    have h2 : IntOp.cmpi .sle (BitVec.ofNat 32 (f p)) (BitVec.ofNat 32 n) = 1#1 := IntOp.cmpi_sle.2 (by
      rw [key _ (hf _), key n (Nat.le_refl n)]; exact Int.ofNat_le.2 (hf _))
    rw [h1, h2]; rfl
  refine (broadcastInDim_apply _ hb _ _ (ix1 r) fun a => ?_).trans (Host.reduce_andi_one _ init hr hu (ix1 r) hinit all)
  match a with
  | ⟨0, _⟩ =>
    show r.val = if N = 1 then 0 else r.val
    have := r.isLt
    split <;> omega

/-- THE LOOKUP: with every row's index in range, the masked gather at `(r, j)` is the table's row `f r` at `j`. -/
theorem take_at {α : Type} {N n w : Nat} (hn : n < 2 ^ 31) (table : (shape2 n w).Idx → α) (v z nv : IVec (shape1 N) 32) (f : Fin N → Fin n)
    (hv : ∀ r, v (ix1 r) = BitVec.ofNat 32 (f r).val) (hz : ∀ i, z i = 0#32)
    (h : (shape1 N).BroadcastsInDim (shape2 N 1) (![0] : Fin 1 → Fin (shape2 N 1).rank))
    (lo hi : IVec (shape2 N 1) 32) (hlo : ∀ i, lo i = 0#32) (hhi : ∀ i, hi i = BitVec.ofNat 32 (n - 1))
    {axes : List (Fin 2)} (hr : (shape2 N 1).ReducesTo axes (shape1 N)) (init : IVec shape0 1) (hu : 0 < shape0.numel)
    (hinit : init (Shape.Idx.first hu) = 1#1) (hb : (shape1 N).BroadcastsInDim (shape2 N w) (![0] : Fin 1 → Fin (shape2 N w).rank))
    (d : GatherDims (shape2 n w) (shape2 N 1) (shape2 N w)) (hoff : d.offsetDims = [1]) (hcoll : d.collapsedSliceDims = [0])
    (hob : d.operandBatchingDims = []) (hsim : d.startIndexMap = [0]) (hivd : d.indexVectorDim = 1) (nan : (shape2 N w).Idx → α)
    (r : Fin N) (j : Fin w) :
    select (broadcastInDim (shape2 N w) ![0] hb (Host.reduce IntOp.andi
        (andi (cmpi .sge (broadcastInDim (shape2 N 1) ![0] h (select (cmpi .slt v z) (addi v nv) v)) lo)
          (cmpi .sle (broadcastInDim (shape2 N 1) ![0] h (select (cmpi .slt v z) (addi v nv) v)) hi)) init hr hu))
      (Host.gather d table (broadcastInDim (shape2 N 1) ![0] h (select (cmpi .slt v z) (addi v nv) v))) nan (ix2 r j)
      = table (ix2 (f r) j) := by
  have hI : ∀ r, broadcastInDim (shape2 N 1) ![0] h (select (cmpi .slt v z) (addi v nv) v) (ix2 r (0 : Fin 1)) = BitVec.ofNat 32 (f r).val :=
    fun r => index_at v z nv hz h r _ (by have := (f r).isLt; omega) (hv r)
  have hm := mask_at (w := w) (n - 1) (by omega) _ lo hi (fun r => (f r).val) hI (fun r => by have := (f r).isLt; omega) hlo hhi hr init hu hinit hb r j
  show Scalar.select _ _ _ = _
  rw [hm]
  show Host.gather d table _ (ix2 r j) = _
  exact gather_row d hoff hcoll hob hsim hivd table _ r j (f r) (hI r) hn

/-- A lookup that is piece `p` of matrices joined along their columns: column `pre + j` of the whole is the table's row at `j`. -/
theorem lookup_piece {α : Type} {N C n w p pre : Nat} (hn : n < 2 ^ 31) {xs : List ((s : Shape) × (s.Idx → α))}
    {hxs : Shape.Concatenates (xs.map (·.1)) (shape2 N C) 1} (hp : p < xs.length) {table : (shape2 n w).Idx → α} {v z nv : IVec (shape1 N) 32}
    {f : Fin N → Fin n} (hv : ∀ r, v (ix1 r) = BitVec.ofNat 32 (f r).val)
    {h : (shape1 N).BroadcastsInDim (shape2 N 1) (![0] : Fin 1 → Fin (shape2 N 1).rank)} {lo hi : IVec (shape2 N 1) 32}
    {axes : List (Fin 2)} {hr : (shape2 N 1).ReducesTo axes (shape1 N)} {init : IVec shape0 1} {hu : 0 < shape0.numel}
    {hb : (shape1 N).BroadcastsInDim (shape2 N w) (![0] : Fin 1 → Fin (shape2 N w).rank)}
    {d : GatherDims (shape2 n w) (shape2 N 1) (shape2 N w)} {nan : (shape2 N w).Idx → α}
    (hx : xs[p] = ⟨shape2 N w, select (broadcastInDim (shape2 N w) ![0] hb (Host.reduce IntOp.andi
        (andi (cmpi .sge (broadcastInDim (shape2 N 1) ![0] h (select (cmpi .slt v z) (addi v nv) v)) lo)
          (cmpi .sle (broadcastInDim (shape2 N 1) ![0] h (select (cmpi .slt v z) (addi v nv) v)) hi)) init hr hu))
      (Host.gather d table (broadcastInDim (shape2 N 1) ![0] h (select (cmpi .slt v z) (addi v nv) v))) nan⟩)
    (hpre : (((xs.take p).map (·.1)).map fun s => if h : s.rank = (shape2 N C).rank then s.size ((1 : Fin (shape2 N C).rank).cast h.symm) else 0).sum = pre)
    (hz : ∀ i, z i = 0#32) (hlo : ∀ i, lo i = 0#32) (hhi : ∀ i, hi i = BitVec.ofNat 32 (n - 1)) (hinit : init (Shape.Idx.first hu) = 1#1)
    (hoff : d.offsetDims = [1]) (hcoll : d.collapsedSliceDims = [0]) (hob : d.operandBatchingDims = []) (hsim : d.startIndexMap = [0])
    (hivd : d.indexVectorDim = 1) {r : Fin N} {j : Fin w} {c : Fin C} (hc : pre + j.val = c.val) :
    concatenate (shape2 N C) 1 xs hxs (ix2 r c) = table (ix2 (f r) j) :=
  (piece_at xs hxs p hp _ hx pre hpre r j c hc).trans
    (take_at hn table v z nv f hv hz h lo hi hlo hhi hr init hu hinit hb d hoff hcoll hob hsim hivd nan r j)

/-- Slab `k` of a rank-three array as a matrix. -/
theorem slab_at {α : Type} {a b c : Nat} (k : Nat) (x : (shape3 a b c).Idx → α) (h : (shape3 a b c).Slices ![k, 0, 0] (shape3 1 b c))
    (h' : (shape3 1 b c).ShapeCasts (shape2 b c)) (p : Fin b) (q : Fin c) (i : Fin a) (hi : i.val = k) :
    shapeCast (shape2 b c) (extractStridedSlice (shape3 1 b c) ![k, 0, 0] x h) h' (ix2 p q) = x (ix3 i p q) := by
  refine (shapeCast_apply _ h' _ (ix3 (0 : Fin 1) p q) ?_).trans (block3_at k 0 0 x h 0 p q i p q (by simp [hi]) (by simp) (by simp))
  rw [Shape.rowMajor_val_three, Shape.rowMajor_val_two]
  show ((0 : Fin 1).val * b + p.val) * c + q.val = p.val * c + q.val
  simp

/-- Layer `k` of the middle axis of a rank-three array as a matrix. -/
theorem layer_at {α : Type} {a b c : Nat} (k : Nat) (x : (shape3 a b c).Idx → α) (h : (shape3 a b c).Slices ![0, k, 0] (shape3 a 1 c))
    (h' : (shape3 a 1 c).ShapeCasts (shape2 a c)) (p : Fin a) (q : Fin c) (i : Fin b) (hi : i.val = k) :
    shapeCast (shape2 a c) (extractStridedSlice (shape3 a 1 c) ![0, k, 0] x h) h' (ix2 p q) = x (ix3 p i q) := by
  refine (shapeCast_apply _ h' _ (ix3 p (0 : Fin 1) q) ?_).trans (block3_at 0 k 0 x h p 0 q p i q (by simp) (by simp [hi]) (by simp))
  rw [Shape.rowMajor_val_three, Shape.rowMajor_val_two]
  show (p.val * 1 + (0 : Fin 1).val) * c + q.val = p.val * c + q.val
  simp

end Cert.Atoms
-- ==== Proof.KernelDots.lean ====
/-
  The kernel's products read at an entry: the launch's own, and the two the operations before it make of the flags.
-/
module

public import proofs.«01_k».proof.Proof.KernelHost
public import proofs.«01_k».proof.Proof.Lookup
import Idealize.ShloMosaic.Lib.Pointwise

@[expose] public section

noncomputable section

namespace Cert.Atoms.Ker

open Idealize.ShloMosaic Cert.KernelIdeal Cert.KernelIdeal.Gen

/-- One block of the launch: a block's rows against the matrix, and the vector added to each. -/
theorem block_entry (x : Vec Ideal S20000x78 .f32) (w : Vec Ideal S78x64 .f32) (b : Vec Ideal S1x64 .f32) (r : Fin 20000) (c : Fin 64) :
    k0_pay1 x w b (ValueIdx.ix2 r c)
      = ∑ k : Fin 78, x (ValueIdx.ix2 r k) * w (ValueIdx.ix2 k c) + b (ValueIdx.ix2 (0 : Fin 1) c) := by
  unfold k0_pay1
  pointwise
  rfl

/-- The product of a vector with the transposed weights. -/
theorem base_dot (x : FVec Ideal S36 .f32) (w : FVec Ideal S4x36 .f32) (j : Fin 4) :
    Host.dotGeneral (φ₂ := .f32) dot_S36_S36x4_S4_0_0_n_1_n_n none x (transpose S36x4 [1, 0] w transposes_S4x36_S36x4_1_0) (ValueIdx.ix1 j)
      = ∑ k : Fin 36, x (ValueIdx.ix1 k) * w (ValueIdx.ix2 j k) := by
  pointwise
  rfl

/-- The transposed weights of the bonds. -/
theorem turned (w : FVec Ideal S16x48 .f32) (k : Fin 48) (j : Fin 16) :
    transpose S48x16 [1, 0] w transposes_S16x48_S48x16_1_0 (ValueIdx.ix2 k j) = w (ValueIdx.ix2 j k) := by
  pointwise
  rfl

/-- The product of each flag's two entries with its own two weights. -/
theorem step_dot (x : FVec Ideal S18x2 .f32) (w : FVec Ideal S4x18x2 .f32) (i : Fin 18) (j : Fin 4) :
    Host.dotGeneral (φ₂ := .f32) dot_S18x2_S4x18x2_S18x4_1_2_n_0_0_1 none x w (ValueIdx.ix2 i j)
      = ∑ e : Fin 2, x (ValueIdx.ix2 i e) * w (ValueIdx.ix3 j i e) := by
  pointwise
  rfl

end Cert.Atoms.Ker
-- ==== Proof.Bits.lean ====
/-
  A feature that is zero or one, as the index it becomes: truncated to a word it is the word 0 or 1, and a clip to a table's
  range leaves it. No program is named here.
-/
module

public import proofs.«01_k».proof.Proof.Lookup
public import Idealize.ShloMosaic.PureOps.Ideal.Laws
public import Idealize.ShloMosaic.PureOps.Ideal

@[expose] public section

noncomputable section

open scoped Classical

namespace Cert.Atoms

open Idealize.ShloMosaic Idealize.ShloMosaic.Routing Idealize.ShloMosaic.ValueIdx

/-- The row a binary feature selects: 1 where it is one, else 0. -/
def bit (x : EReal) : Nat := if x = 1 then 1 else 0

theorem bit_zero : bit 0 = 0 := if_neg zero_ne_one
theorem bit_one : bit 1 = 1 := if_pos rfl
theorem bit_le (x : EReal) : bit x ≤ 1 := by unfold bit; split <;> omega

/-- The same as a row of a table of `n` rows. -/
def row (n : Nat) (hn : 1 < n) (x : EReal) : Fin n := ⟨bit x, Nat.lt_of_le_of_lt (bit_le x) hn⟩

/-- A number that is zero or one truncates to that word. -/
theorem word_of_bit (x : EReal) (hx : x = 0 ∨ x = 1) : Ideal.fptosi 32 x = BitVec.ofNat 32 (bit x) := by
  rcases hx with rfl | rfl
  · have h := Ideal.toIntClamped_coe 0 (-(2 ^ (32 - 1) : Nat)) ((2 ^ (32 - 1) : Nat) - 1)
    rw [EReal.coe_zero] at h
    rw [bit_zero, Ideal.fptosi, h]
    norm_num
  · have h := Ideal.toIntClamped_coe 1 (-(2 ^ (32 - 1) : Nat)) ((2 ^ (32 - 1) : Nat) - 1)
    rw [EReal.coe_one] at h
    rw [bit_one, Ideal.fptosi, h]
    norm_num

/-- A small index clipped to `[0, n]` is left as it is. -/
theorem clip_word (n b : Nat) (hn : n < 2 ^ 31) (hb : b ≤ n) :
    IntOp.minsi (BitVec.ofNat 32 n) (IntOp.maxsi 0#32 (BitVec.ofNat 32 b)) = BitVec.ofNat 32 b := by
  have key : ∀ a : Nat, a ≤ n → (BitVec.ofNat 32 a).toInt = a := fun a ha => StableHlo.Predicate.toInt_ofNat_small a (by omega)
  have h1 : IntOp.maxsi 0#32 (BitVec.ofNat 32 b) = BitVec.ofNat 32 b := by
    unfold IntOp.maxsi
    split
    · next h => rw [BitVec.slt_iff_toInt_lt, key b hb] at h; exact absurd h (by simp)
    · rfl
  rw [h1]
  unfold IntOp.minsi
  split
  · next h => rw [BitVec.slt_iff_toInt_lt, key b hb, key n (Nat.le_refl n)] at h; omega
  · rfl

/-- A clipped vector of words at a place where the word is a small index. -/
theorem clip_at {s : Shape} (hi lo v : IVec s 32) (n b : Nat) (hn : n < 2 ^ 31) (hb : b ≤ n) (i : s.Idx) (hhi : hi i = BitVec.ofNat 32 n)
    (hlo : lo i = 0#32) (hv : v i = BitVec.ofNat 32 b) : minsi hi (maxsi lo v) i = BitVec.ofNat 32 b := by
  show IntOp.minsi (hi i) (IntOp.maxsi (lo i) (v i)) = _
  rw [hhi, hlo, hv, clip_word n b hn hb]

/-- THE INDEX OF A FEATURE COLUMN: column `k` of the features, truncated to words and clipped to a table's range, is in row `r`
    the word of that feature, where the feature is zero or one. -/
theorem feature_index {a b : Nat} (x : FVec Ideal (shape2 a b) .f32) (n : Nat) (hn : n < 2 ^ 31) (h1 : 1 ≤ n) (hi lo : IVec (shape1 a) 32)
    (hhi : ∀ i, hi i = BitVec.ofNat 32 n) (hlo : ∀ i, lo i = 0#32) (k : Nat) (hs : (shape2 a b).Slices ![0, k] (shape2 a 1))
    (hc : (shape2 a 1).ShapeCasts (shape1 a)) (k' : Fin b) (hk : k'.val = k) (r : Fin a) (hx : x (ix2 r k') = 0 ∨ x (ix2 r k') = 1) :
    minsi hi (maxsi lo (fptosi 32 (shapeCast (shape1 a) (extractStridedSlice (shape2 a 1) ![0, k] x hs) hc))) (ix1 r)
      = BitVec.ofNat 32 (bit (x (ix2 r k'))) := by
  refine clip_at _ _ _ n _ hn (le_trans (bit_le _) h1) _ (hhi _) (hlo _) ?_
  show Ideal.fptosi 32 (shapeCast (shape1 a) (extractStridedSlice (shape2 a 1) ![0, k] x hs) hc (ix1 r)) = _
  rw [column_at k x hs hc r k' hk, word_of_bit _ hx]

end Cert.Atoms
-- ==== Proof.Algebra.lean ====
/-
  Where a feature is zero or one, a table's row is its row 0 plus the feature times the difference of the rows, on the extended
  reals as long as row 0 is finite. No program is named here.
-/
module

public import proofs.«01_k».proof.Proof.Bits

@[expose] public section

noncomputable section

open scoped Classical

namespace Cert.Atoms

/-- A number that is not infinite. -/
abbrev IsReal (t : EReal) : Prop := ∃ y : ℝ, t = y

/-- A finite number taken off and added back. -/
theorem sub_add_back (t u : EReal) (h : IsReal t) : (u - t) + t = u := by
  obtain ⟨x, rfl⟩ := h
  induction u using EReal.rec with
  | bot => simp
  | top => simp
  | coe y => rw [← EReal.coe_sub, ← EReal.coe_add, sub_add_cancel]

/-- The same under a finite weight. -/
theorem sub_mul_add_back (t u w : EReal) (h : IsReal t) (hw : IsReal w) : (u - t) * w + t * w = u * w := by
  obtain ⟨x, rfl⟩ := h
  obtain ⟨y, rfl⟩ := hw
  induction u using EReal.rec with
  | bot =>
    rw [EReal.bot_sub]
    rcases lt_trichotomy y 0 with hy | rfl | hy
    · rw [EReal.bot_mul_coe_of_neg hy, ← EReal.coe_mul, EReal.top_add_coe]
    · simp
    · rw [EReal.bot_mul_coe_of_pos hy, EReal.bot_add]
  | top =>
    rw [EReal.top_sub_coe]
    rcases lt_trichotomy y 0 with hy | rfl | hy
    · rw [EReal.top_mul_coe_of_neg hy, EReal.bot_add]
    · simp
    · rw [EReal.top_mul_coe_of_pos hy, ← EReal.coe_mul, EReal.top_add_coe]
  | coe z =>
    rw [← EReal.coe_sub, ← EReal.coe_mul, ← EReal.coe_mul, ← EReal.coe_mul, ← EReal.coe_add]
    congr 1
    ring

/-- A sum of products in which one factor is zero everywhere. -/
theorem sum_none {n : Nat} (a M : Fin n → EReal) (c t : EReal) (hM : ∀ k, M k = 0) (hc : c = t) : ∑ k, a k * M k + c = t := by
  rw [Finset.sum_eq_zero fun k _ => by rw [hM, mul_zero], zero_add, hc]

/-- ONE FEATURE: a column of the matrix that holds the difference of two rows at the feature's place and zero elsewhere, added to
    row 0, gives the row the feature selects. -/
theorem sum_one {n : Nat} (a M : Fin n → EReal) (c t0 t1 : EReal) (k0 : Fin n) (hM : ∀ k, M k = if k = k0 then t1 - t0 else 0) (hc : c = t0)
    (ht : IsReal t0) (ha : a k0 = 0 ∨ a k0 = 1) : ∑ k, a k * M k + c = if bit (a k0) = 0 then t0 else t1 := by
  rw [Finset.sum_eq_single k0 (fun k _ hk => by rw [hM, if_neg hk, mul_zero]) (fun h => absurd (Finset.mem_univ _) h), hM, if_pos rfl, hc]
  rcases ha with h | h
  · rw [h, bit_zero, if_pos rfl, zero_mul, zero_add]
  · rw [h, bit_one, if_neg one_ne_zero, one_mul, sub_add_back _ _ ht]

/-- A sum that is zero outside a stretch of its indices is the sum over the stretch. -/
theorem sum_stretch {N n : Nat} (f : Fin N → EReal) (lo : Nat) (h : lo + n ≤ N) (hf : ∀ k : Fin N, k.val < lo ∨ lo + n ≤ k.val → f k = 0) :
    ∑ k, f k = ∑ i : Fin n, f ⟨lo + i.val, by omega⟩ := by
  refine (Finset.sum_of_injOn (fun i : Fin n => (⟨lo + i.val, by omega⟩ : Fin N)) (fun i _ j _ hij => ?_) (fun _ _ => Finset.mem_coe.2 (Finset.mem_univ _))
    (fun k _ hk => hf k ?_) fun _ _ => rfl).symm
  · have := congrArg Fin.val hij
    exact Fin.ext (by simpa using this)
  · by_contra hcon
    refine hk ⟨⟨k.val - lo, by omega⟩, Finset.mem_coe.2 (Finset.mem_univ _), Fin.ext ?_⟩
    show lo + (k.val - lo) = k.val
    omega

/-- A sum over pairs laid out one after another. -/
theorem sum_pairs {n : Nat} (f : Fin (n * 2) → EReal) :
    ∑ k, f k = ∑ i : Fin n, ∑ e : Fin 2, f ⟨2 * i.val + e.val, by omega⟩ := by
  rw [← finProdFinEquiv.sum_comp f, Fintype.sum_prod_type]
  refine Finset.sum_congr rfl fun i _ => Finset.sum_congr rfl fun e _ => congrArg f (Fin.ext ?_)
  show e.val + 2 * i.val = 2 * i.val + e.val
  omega

/-- THE FLAGS: the features times the weighted differences of their rows, added to the weighted rows 0, give the weighted rows the
    features select. -/
theorem sum_flags (a : Fin 18 → EReal) (t0 t1 w : Fin 18 → Fin 2 → EReal) (b : EReal) (ha : ∀ i, a i = 0 ∨ a i = 1)
    (ht : ∀ i e, IsReal (t0 i e)) (hw : ∀ i e, IsReal (w i e)) :
    ∑ i, a i * (∑ e, (t1 i e - t0 i e) * w i e) + (∑ i, ∑ e, t0 i e * w i e + b)
      = ∑ i, ∑ e, (if bit (a i) = 0 then t0 i e else t1 i e) * w i e + b := by
  rw [← add_assoc, ← Finset.sum_add_distrib]
  refine congrArg (· + b) (Finset.sum_congr rfl fun i _ => ?_)
  rcases ha i with h | h
  · rw [h, bit_zero, zero_mul, zero_add]
    simp
  · rw [h, bit_one, one_mul, ← Finset.sum_add_distrib]
    exact Finset.sum_congr rfl fun e _ => by rw [sub_mul_add_back _ _ _ (ht i e) (hw i e), if_neg one_ne_zero]

end Cert.Atoms
-- ==== Proof.KernelEntries.lean ====
/-
  The kernel's vector and matrix read at an entry: inside a part, what the part was set to; outside every part, zero.
-/
module

public import proofs.«01_k».proof.Proof.KernelDots
public import proofs.«01_k».proof.Proof.Algebra

@[expose] public section

noncomputable section

namespace Cert.Atoms.Ker

open Idealize.ShloMosaic Idealize.ShloMosaic.Routing Idealize.ShloMosaic.ValueIdx Cert.KernelIdeal Cert.KernelIdeal.Gen

/-! ## One part -/

/-- The word of a small number is that number. -/
theorem small_word (n : Nat) (h : n < 100) : (BitVec.ofNat 32 n).toInt = n := StableHlo.Predicate.toInt_ofNat_small n (by omega)

theorem place_row (i lo : Nat) (hi : i < 100) : (place i lo (ix1 0)).toInt = i := small_word i hi
theorem place_col (i lo : Nat) (hlo : lo < 100) : (place i lo (ix1 1)).toInt = lo := small_word lo hlo

/-- Inside the segment: the new entry. -/
theorem seg4_hit (lo : Nat) (hlo : lo < 100) (x u) (j : Fin 4) (c : Fin 64) (hc : c.val = lo + j.val) : seg4 lo x u (ix1 c) = u (ix1 j) := by
  refine (set_segment (n := 4) _ rfl rfl rfl x _ u lo (small_word lo hlo) c).trans ((dif_pos (by omega)).trans ?_)
  exact congrArg (fun q => u (ix1 q)) (Fin.ext (by show c.val - lo = j.val; omega))

/-- Outside the segment: the old entry. -/
theorem seg4_skip (lo : Nat) (hlo : lo < 100) (x u) (c : Fin 64) (hc : c.val < lo ∨ lo + 4 ≤ c.val) : seg4 lo x u (ix1 c) = x (ix1 c) :=
  (set_segment (n := 4) _ rfl rfl rfl x _ u lo (small_word lo hlo) c).trans (dif_neg (by omega))

theorem seg2_hit (lo : Nat) (hlo : lo < 100) (x u) (j : Fin 2) (c : Fin 64) (hc : c.val = lo + j.val) : seg2 lo x u (ix1 c) = u (ix1 j) := by
  refine (set_segment (n := 2) _ rfl rfl rfl x _ u lo (small_word lo hlo) c).trans ((dif_pos (by omega)).trans ?_)
  exact congrArg (fun q => u (ix1 q)) (Fin.ext (by show c.val - lo = j.val; omega))

theorem seg2_skip (lo : Nat) (hlo : lo < 100) (x u) (c : Fin 64) (hc : c.val < lo ∨ lo + 2 ≤ c.val) : seg2 lo x u (ix1 c) = x (ix1 c) :=
  (set_segment (n := 2) _ rfl rfl rfl x _ u lo (small_word lo hlo) c).trans (dif_neg (by omega))

theorem seg16_hit (lo : Nat) (hlo : lo < 100) (x u) (j : Fin 16) (c : Fin 64) (hc : c.val = lo + j.val) : seg16 lo x u (ix1 c) = u (ix1 j) := by
  refine (set_segment (n := 16) _ rfl rfl rfl x _ u lo (small_word lo hlo) c).trans ((dif_pos (by omega)).trans ?_)
  exact congrArg (fun q => u (ix1 q)) (Fin.ext (by show c.val - lo = j.val; omega))

theorem seg16_skip (lo : Nat) (hlo : lo < 100) (x u) (c : Fin 64) (hc : c.val < lo ∨ lo + 16 ≤ c.val) : seg16 lo x u (ix1 c) = x (ix1 c) :=
  (set_segment (n := 16) _ rfl rfl rfl x _ u lo (small_word lo hlo) c).trans (dif_neg (by omega))

/-- Inside the row's segment: the new entry. -/
theorem row4_hit (i lo : Nat) (hi : i < 100) (hlo : lo < 100) (x u) (j : Fin 4) (k : Fin 78) (c : Fin 64) (hk : k.val = i)
    (hc : c.val = lo + j.val) : row4 i lo x u (ix2 k c) = u (ix1 j) := by
  refine (set_row (n := 4) _ rfl rfl rfl x _ u i lo (place_row i lo hi) (place_col i lo hlo) k c).trans ((dif_pos (by omega)).trans ?_)
  exact congrArg (fun q => u (ix1 q)) (Fin.ext (by show c.val - lo = j.val; omega))

/-- Outside it: the old entry. -/
theorem row4_skip (i lo : Nat) (hi : i < 100) (hlo : lo < 100) (x u) (k : Fin 78) (c : Fin 64) (hc : k.val ≠ i ∨ c.val < lo ∨ lo + 4 ≤ c.val) :
    row4 i lo x u (ix2 k c) = x (ix2 k c) :=
  (set_row (n := 4) _ rfl rfl rfl x _ u i lo (place_row i lo hi) (place_col i lo hlo) k c).trans (dif_neg (by omega))

theorem row2_hit (i lo : Nat) (hi : i < 100) (hlo : lo < 100) (x u) (j : Fin 2) (k : Fin 78) (c : Fin 64) (hk : k.val = i)
    (hc : c.val = lo + j.val) : row2 i lo x u (ix2 k c) = u (ix1 j) := by
  refine (set_row (n := 2) _ rfl rfl rfl x _ u i lo (place_row i lo hi) (place_col i lo hlo) k c).trans ((dif_pos (by omega)).trans ?_)
  exact congrArg (fun q => u (ix1 q)) (Fin.ext (by show c.val - lo = j.val; omega))

theorem row2_skip (i lo : Nat) (hi : i < 100) (hlo : lo < 100) (x u) (k : Fin 78) (c : Fin 64) (hc : k.val ≠ i ∨ c.val < lo ∨ lo + 2 ≤ c.val) :
    row2 i lo x u (ix2 k c) = x (ix2 k c) :=
  (set_row (n := 2) _ rfl rfl rfl x _ u i lo (place_row i lo hi) (place_col i lo hlo) k c).trans (dif_neg (by omega))

/-- Inside the rectangle: the new entry. -/
theorem rect18_hit (i lo : Nat) (hi : i < 100) (hlo : lo < 100) (x u) (l : Fin 18) (j : Fin 4) (k : Fin 78) (c : Fin 64) (hk : k.val = i + l.val)
    (hc : c.val = lo + j.val) : rect18 i lo x u (ix2 k c) = u (ix2 l j) := by
  refine (set_rectangle (a := 18) (n := 4) _ rfl rfl rfl rfl x _ u i lo (place_row i lo hi) (place_col i lo hlo) k c).trans
    ((dif_pos (by omega)).trans ?_)
  exact congrArg₂ (fun p q => u (ix2 p q)) (Fin.ext (by show k.val - i = l.val; omega)) (Fin.ext (by show c.val - lo = j.val; omega))

/-- Outside it: the old entry. -/
theorem rect18_skip (i lo : Nat) (hi : i < 100) (hlo : lo < 100) (x u) (k : Fin 78) (c : Fin 64)
    (hc : k.val < i ∨ i + 18 ≤ k.val ∨ c.val < lo ∨ lo + 4 ≤ c.val) : rect18 i lo x u (ix2 k c) = x (ix2 k c) :=
  (set_rectangle (a := 18) (n := 4) _ rfl rfl rfl rfl x _ u i lo (place_row i lo hi) (place_col i lo hlo) k c).trans (dif_neg (by omega))

theorem rect48_hit (i lo : Nat) (hi : i < 100) (hlo : lo < 100) (x u) (l : Fin 48) (j : Fin 16) (k : Fin 78) (c : Fin 64) (hk : k.val = i + l.val)
    (hc : c.val = lo + j.val) : rect48 i lo x u (ix2 k c) = u (ix2 l j) := by
  refine (set_rectangle (a := 48) (n := 16) _ rfl rfl rfl rfl x _ u i lo (place_row i lo hi) (place_col i lo hlo) k c).trans
    ((dif_pos (by omega)).trans ?_)
  exact congrArg₂ (fun p q => u (ix2 p q)) (Fin.ext (by show k.val - i = l.val; omega)) (Fin.ext (by show c.val - lo = j.val; omega))

theorem rect48_skip (i lo : Nat) (hi : i < 100) (hlo : lo < 100) (x u) (k : Fin 78) (c : Fin 64)
    (hc : k.val < i ∨ i + 48 ≤ k.val ∨ c.val < lo ∨ lo + 16 ≤ c.val) : rect48 i lo x u (ix2 k c) = x (ix2 k c) :=
  (set_rectangle (a := 48) (n := 16) _ rfl rfl rfl rfl x _ u i lo (place_row i lo hi) (place_col i lo hlo) k c).trans (dif_neg (by omega))

/-- Read inside the columns of a row's segment, at any row. -/
theorem row4_in (i lo : Nat) (hi : i < 100) (hlo : lo < 100) (x u) (j : Fin 4) (k : Fin 78) (c : Fin 64) (hc : c.val = lo + j.val) :
    row4 i lo x u (ix2 k c) = if k.val = i then u (ix1 j) else x (ix2 k c) := by
  split
  · exact row4_hit i lo hi hlo x u j k c ‹_› hc
  · exact row4_skip i lo hi hlo x u k c (Or.inl ‹_›)

theorem row2_in (i lo : Nat) (hi : i < 100) (hlo : lo < 100) (x u) (j : Fin 2) (k : Fin 78) (c : Fin 64) (hc : c.val = lo + j.val) :
    row2 i lo x u (ix2 k c) = if k.val = i then u (ix1 j) else x (ix2 k c) := by
  split
  · exact row2_hit i lo hi hlo x u j k c ‹_› hc
  · exact row2_skip i lo hi hlo x u k c (Or.inl ‹_›)

/-- What the matrix starts from. -/
abbrev blank : FVec Ideal S78x64 .f32 := broadcastInDim S78x64 ![] bcast_S_S78x64 (constant S_ .f32 0x00000000#32)

/-- It is zero. -/
theorem blank_at (k : Fin 78) (c : Fin 64) : blank (ix2 k c) = 0 := Ideal.ofBits_zero_f32

/-- The difference of two rows of a table, at an entry. -/
theorem line4_sub {n : Nat} (p q : Nat) (t : FVec Ideal (shape2 n 4) .f32) (hp hq) (p' q' : Fin n) (ep : p'.val = p) (eq : q'.val = q) (j : Fin 4) :
    (subf (line4 p t hp) (line4 q t hq)) (ix1 j) = t (ix2 p' j) - t (ix2 q' j) :=
  congrArg₂ (fun x y : EReal => x - y) (row_at p t hp _ j p' ep) (row_at q t hq _ j q' eq)

theorem line2_sub {n : Nat} (p q : Nat) (t : FVec Ideal (shape2 n 2) .f32) (hp hq) (p' q' : Fin n) (ep : p'.val = p) (eq : q'.val = q) (j : Fin 2) :
    (subf (line2 p t hp) (line2 q t hq)) (ix1 j) = t (ix2 p' j) - t (ix2 q' j) :=
  congrArg₂ (fun x y : EReal => x - y) (row_at p t hp _ j p' ep) (row_at q t hq _ j q' eq)

/-! ## The flags -/

variable (V0 : Valuation τ sig (Elt Ideal))

/-- The flags' tables. -/
abbrev tables : FVec Ideal (shape3 18 2 2) .f32 := V0 (Proc.devRef .tc main_arg8)

/-- The flags' weights. -/
abbrev weights : FVec Ideal (shape2 4 36) .f32 := V0 (Proc.devRef .tc main_arg14)

/-- A row `p` of every flag's table, read at an entry. -/
theorem flags_at (p : Nat) (p' : Fin 2) (hp : p'.val = p) (hs) (i : Fin 18) (e : Fin 2) :
    shapeCast S18x2 (extractStridedSlice S18x1x2 ![0, p, 0] (tables V0) hs) shapeCasts_S18x1x2_S18x2 (ix2 i e) = tables V0 (ix3 i p' e) :=
  layer_at (a := 18) (b := 2) (c := 2) p (tables V0) hs _ i e p' hp

/-- What the flags start from: the rows 0 against the weights, and the bias. -/
theorem flagsBase_at (j : Fin 4) : flagsBase V0 (ix1 j)
    = ∑ k : Fin 36, tables V0 (ix3 ⟨k.val / 2, by omega⟩ 0 ⟨k.val % 2, by omega⟩) * weights V0 (ix2 j k)
      + (V0 (Proc.devRef .tc main_arg15) : FVec Ideal (shape1 4) .f32) (ix1 j) := by
  refine congrArg (fun x : EReal => x + (V0 (Proc.devRef .tc main_arg15) : FVec Ideal (shape1 4) .f32) (ix1 j))
    ((base_dot _ _ j).trans (Finset.sum_congr rfl fun k _ => congrArg (· * _) ?_))
  refine (cast21 (flags0 V0) shapeCasts_S18x2_S36 ⟨k.val / 2, by omega⟩ ⟨k.val % 2, by omega⟩ k
    (by show k.val = k.val / 2 * 2 + k.val % 2; omega)).trans ?_
  exact flags_at V0 0 0 rfl slices_S18x2x2_S18x1x2_0_0_0 _ _

/-- What one flag's feature adds: the difference of the table's rows against its two weights. -/
theorem flagsStep_at (i : Fin 18) (j : Fin 4) : flagsStep V0 (ix2 i j)
    = ∑ e : Fin 2, (tables V0 (ix3 i 1 e) - tables V0 (ix3 i 0 e)) * weights V0 (ix2 j ⟨2 * i.val + e.val, by omega⟩) := by
  refine (step_dot _ _ i j).trans (Finset.sum_congr rfl fun e _ => congrArg₂ (fun x y : EReal => x * y) ?_ ?_)
  · exact congrArg₂ (fun x y : EReal => x - y) (flags_at V0 1 1 rfl slices_S18x2x2_S18x1x2_0_1_0 i e) (flags_at V0 0 0 rfl slices_S18x2x2_S18x1x2_0_0_0 i e)
  · refine shapeCast_apply _ shapeCasts_S4x36_S4x18x2 _ (ix2 j (⟨2 * i.val + e.val, by omega⟩ : Fin 36)) ?_
    rw [Shape.rowMajor_val_two, Shape.rowMajor_val_three]
    show j.val * 36 + (2 * i.val + e.val) = (j.val * 18 + i.val) * 2 + e.val
    omega

/-! ## An entry of the result -/

/-- The kernel's result at column `c` for a row of features `x`. -/
def entry (x : Fin 78 → EReal) (c : Fin 64) : EReal := ∑ k, x k * mat V0 (ix2 k c) + vec V0 (ix1 c)

variable (x : Fin 78 → EReal)

/-- A column of the matrix that holds a difference at one feature's place. -/
theorem entry_one (c : Fin 64) (i : Nat) (k0 : Fin 78) (hk : k0.val = i) (d t0 t1 : EReal)
    (hM : ∀ k, mat V0 (ix2 k c) = if k.val = i then d else blank (ix2 k c)) (hd : d = t1 - t0) (hC : vec V0 (ix1 c) = t0)
    (ht : IsReal t0) (hx : x k0 = 0 ∨ x k0 = 1) : entry V0 x c = if bit (x k0) = 0 then t0 else t1 :=
  sum_one x (fun k => mat V0 (ix2 k c)) _ t0 t1 k0
    (fun k => (hM k).trans (if_congr (by rw [Fin.ext_iff, hk]) hd (blank_at k c))) hC ht hx

/-- The row a feature chooses out of row 0 and row `p`. -/
theorem chosen {n m : Nat} (t : FVec Ideal (shape2 n m) .f32) (y : EReal) (p : Nat) (z p' q : Fin n) (hz : z.val = 0) (hp : p'.val = p)
    (hq : q.val = p * bit y) (j : Fin m) : (if bit y = 0 then t (ix2 z j) else t (ix2 p' j)) = t (ix2 q j) := by
  have hb := bit_le y
  split
  · rename_i h
    exact congrArg (fun z => t (ix2 z j)) (Fin.ext (by rw [hz, hq, h, mul_zero]))
  · rename_i h
    exact congrArg (fun z => t (ix2 z j)) (Fin.ext (by rw [hp, hq, (by omega : bit y = 1), mul_one]))

/-- Columns from `lo` of the matrix and the vector hold a table: row 0 in the vector, and row `p` less row 0 in row `i` of the matrix. -/
abbrev Four {n : Nat} (i lo p : Nat) (t : FVec Ideal (shape2 n 4) .f32) (hp : (shape2 n 4).Slices ![p, 0] S1x4)
    (h0 : (shape2 n 4).Slices ![0, 0] S1x4) : Prop :=
  ∀ (j : Fin 4) (c : Fin 64), c.val = lo + j.val →
    (∀ k : Fin 78, mat V0 (ix2 k c) = if k.val = i then (subf (line4 p t hp) (line4 0 t h0)) (ix1 j) else blank (ix2 k c))
      ∧ vec V0 (ix1 c) = line4 0 t h0 (ix1 j)

/-- The same for a table of two columns. -/
abbrev Two {n : Nat} (i lo p : Nat) (t : FVec Ideal (shape2 n 2) .f32) (hp : (shape2 n 2).Slices ![p, 0] S1x2)
    (h0 : (shape2 n 2).Slices ![0, 0] S1x2) : Prop :=
  ∀ (j : Fin 2) (c : Fin 64), c.val = lo + j.val →
    (∀ k : Fin 78, mat V0 (ix2 k c) = if k.val = i then (subf (line2 p t hp) (line2 0 t h0)) (ix1 j) else blank (ix2 k c))
      ∧ vec V0 (ix1 c) = line2 0 t h0 (ix1 j)

/-- The tables of four columns, in the order of their arguments. -/
theorem fours :
    Four V0 1 4 1 (V0 (Proc.devRef .tc main_arg2)) slices_S7x4_S1x4_1_0 slices_S7x4_S1x4_0_0
    ∧ Four V0 2 12 1 (V0 (Proc.devRef .tc main_arg4)) slices_S8x4_S1x4_1_0 slices_S8x4_S1x4_0_0
    ∧ Four V0 4 16 1 (V0 (Proc.devRef .tc main_arg5)) slices_S2x4_S1x4_1_0 slices_S2x4_S1x4_0_0
    ∧ Four V0 3 20 1 (V0 (Proc.devRef .tc main_arg6)) slices_S6x4_S1x4_1_0 slices_S6x4_S1x4_0_0
    ∧ Four V0 6 24 1 (V0 (Proc.devRef .tc main_arg7)) slices_S5x4_S1x4_1_0 slices_S5x4_S1x4_0_0
    ∧ Four V0 27 36 6 (V0 (Proc.devRef .tc main_arg11)) slices_S7x4_S1x4_6_0 slices_S7x4_S1x4_0_0
    ∧ Four V0 28 40 1 (V0 (Proc.devRef .tc main_arg12)) slices_S5x4_S1x4_1_0 slices_S5x4_S1x4_0_0
    ∧ Four V0 29 44 1 (V0 (Proc.devRef .tc main_arg13)) slices_S8x4_S1x4_1_0 slices_S8x4_S1x4_0_0 := by
  refine ⟨?_, ?_, ?_, ?_, ?_, ?_, ?_, ?_⟩ <;>
  · intro j c hc
    have hj := j.isLt
    refine ⟨fun k => ?_, ?_⟩
    · unfold mat
      simp (disch := omega) only [row4_skip, row2_skip, rect18_skip, rect48_skip, row4_in (j := j)]
    · unfold vec
      simp (disch := omega) only [seg4_skip, seg2_skip, seg16_skip, seg4_hit (j := j)]

/-- The tables of two columns, in the order of their arguments. -/
theorem twos :
    Two V0 25 32 1 (V0 (Proc.devRef .tc main_arg9)) slices_S2x2_S1x2_1_0 slices_S2x2_S1x2_0_0
    ∧ Two V0 26 34 1 (V0 (Proc.devRef .tc main_arg10)) slices_S2x2_S1x2_1_0 slices_S2x2_S1x2_0_0 := by
  refine ⟨?_, ?_⟩ <;>
  · intro j c hc
    have hj := j.isLt
    refine ⟨fun k => ?_, ?_⟩
    · unfold mat
      simp (disch := omega) only [row4_skip, row2_skip, rect18_skip, rect48_skip, row2_in (j := j)]
    · unfold vec
      simp (disch := omega) only [seg4_skip, seg2_skip, seg16_skip, seg2_hit (j := j)]

/-- A group of four columns that one feature selects: the chosen row of the table. -/
theorem entry_four {n : Nat} {t : FVec Ideal (shape2 n 4) .f32} {p : Nat} {hp : (shape2 n 4).Slices ![p, 0] S1x4}
    {h0 : (shape2 n 4).Slices ![0, 0] S1x4} {i lo : Nat} (h : Four V0 i lo p t hp h0) (k0 : Fin 78) (hk : k0.val = i) (z p' q : Fin n)
    (hz : z.val = 0) (hp' : p'.val = p) (hq : q.val = p * bit (x k0)) (j : Fin 4) (c : Fin 64) (hc : c.val = lo + j.val)
    (ht : IsReal (t (ix2 z j))) (hx : x k0 = 0 ∨ x k0 = 1) : entry V0 x c = t (ix2 q j) :=
  (entry_one V0 x c i k0 hk _ _ _ (h j c hc).1 (line4_sub p 0 t hp h0 p' z hp' hz j) ((h j c hc).2.trans (row_at 0 t h0 _ j z hz)) ht hx).trans
    (chosen t _ p z p' q hz hp' hq j)

/-- The same for a group of two columns. -/
theorem entry_two {n : Nat} {t : FVec Ideal (shape2 n 2) .f32} {p : Nat} {hp : (shape2 n 2).Slices ![p, 0] S1x2}
    {h0 : (shape2 n 2).Slices ![0, 0] S1x2} {i lo : Nat} (h : Two V0 i lo p t hp h0) (k0 : Fin 78) (hk : k0.val = i) (z p' q : Fin n)
    (hz : z.val = 0) (hp' : p'.val = p) (hq : q.val = p * bit (x k0)) (j : Fin 2) (c : Fin 64) (hc : c.val = lo + j.val)
    (ht : IsReal (t (ix2 z j))) (hx : x k0 = 0 ∨ x k0 = 1) : entry V0 x c = t (ix2 q j) :=
  (entry_one V0 x c i k0 hk _ _ _ (h j c hc).1 (line2_sub p 0 t hp h0 p' z hp' hz j) ((h j c hc).2.trans (row_at 0 t h0 _ j z hz)) ht hx).trans
    (chosen t _ p z p' q hz hp' hq j)

/-- A column of the matrix that is zero leaves the vector's entry. -/
theorem entry_none (c : Fin 64) (t : EReal) (hM : ∀ k, mat V0 (ix2 k c) = blank (ix2 k c)) (hC : vec V0 (ix1 c) = t) : entry V0 x c = t :=
  sum_none x (fun k => mat V0 (ix2 k c)) _ t (fun k => (hM k).trans (blank_at k c)) hC

/-! ## The groups of columns -/

/-- Columns 0 to 3: row 0 of the elements' table, whatever the features. -/
theorem entry_element (j : Fin 4) (c : Fin 64) (hc : c.val = 0 + j.val) :
    entry V0 x c = (V0 (Proc.devRef .tc main_arg1) : FVec Ideal (shape2 7 4) .f32) (ix2 0 j) := by
  have hj := j.isLt
  refine entry_none V0 x c _ (fun k => ?_) ?_
  · unfold mat
    simp (disch := omega) only [row4_skip, row2_skip, rect18_skip, rect48_skip]
  · unfold vec
    simp (disch := omega) only [seg4_skip, seg2_skip, seg16_skip, seg4_hit (j := j)]
    exact row_at 0 _ _ _ j 0 rfl

/-- Columns 8 to 11: row 1 of the rings' table, whatever the features. -/
theorem entry_ring (j : Fin 4) (c : Fin 64) (hc : c.val = 8 + j.val) :
    entry V0 x c = (V0 (Proc.devRef .tc main_arg3) : FVec Ideal (shape2 2 4) .f32) (ix2 1 j) := by
  have hj := j.isLt
  refine entry_none V0 x c _ (fun k => ?_) ?_
  · unfold mat
    simp (disch := omega) only [row4_skip, row2_skip, rect18_skip, rect48_skip]
  · unfold vec
    simp (disch := omega) only [seg4_skip, seg2_skip, seg16_skip, seg4_hit (j := j)]
    exact row_at 1 _ _ _ j 1 rfl

/-- A sum over pairs, each term named by its pair. -/
theorem sum_pairs_named (g : Fin 18 → Fin 2 → Fin 36 → EReal) :
    ∑ k : Fin 36, g ⟨k.val / 2, by omega⟩ ⟨k.val % 2, by omega⟩ k = ∑ i : Fin 18, ∑ e : Fin 2, g i e ⟨2 * i.val + e.val, by omega⟩ := by
  refine (sum_pairs (n := 18) fun k : Fin 36 => g ⟨k.val / 2, by omega⟩ ⟨k.val % 2, by omega⟩ k).trans
    (Finset.sum_congr rfl fun i _ => Finset.sum_congr rfl fun e _ => ?_)
  refine congrFun (congrArg₂ g (Fin.ext ?_) (Fin.ext ?_)) _
  · show (2 * i.val + e.val) / 2 = i.val
    omega
  · show (2 * i.val + e.val) % 2 = e.val
    omega

/-- Columns 28 to 31: the rows of the flags' tables that features 7 to 24 select, against the weights, and the bias. -/
theorem entry_flags (j : Fin 4) (c : Fin 64) (hc : c.val = 28 + j.val) (hx : ∀ i : Fin 18, x ⟨7 + i.val, by omega⟩ = 0 ∨ x ⟨7 + i.val, by omega⟩ = 1)
    (ht : ∀ i e, IsReal (tables V0 (ix3 i 0 e))) (hw : ∀ k, IsReal (weights V0 (ix2 j k))) :
    entry V0 x c = ∑ k : Fin 36, tables V0 (ix3 ⟨k.val / 2, by omega⟩ (row 2 (by norm_num) (x ⟨7 + k.val / 2, by omega⟩)) ⟨k.val % 2, by omega⟩)
        * weights V0 (ix2 j k) + (V0 (Proc.devRef .tc main_arg15) : FVec Ideal (shape1 4) .f32) (ix1 j) := by
  have hj := j.isLt
  have hC : vec V0 (ix1 c) = flagsBase V0 (ix1 j) := by
    unfold vec
    simp (disch := omega) only [seg4_skip, seg2_skip, seg16_skip, seg4_hit (j := j)]
  have hM0 : ∀ k : Fin 78, k.val < 7 ∨ 7 + 18 ≤ k.val → x k * mat V0 (ix2 k c) = 0 := fun k hk => by
    have h : mat V0 (ix2 k c) = blank (ix2 k c) := by
      unfold mat
      simp (disch := omega) only [row4_skip, row2_skip, rect18_skip, rect48_skip]
    rw [h, blank_at, mul_zero]
  have hM1 : ∀ i : Fin 18, mat V0 (ix2 (⟨7 + i.val, by omega⟩ : Fin 78) c) = flagsStep V0 (ix2 i j) := fun i => by
    unfold mat
    have hk : (⟨7 + i.val, by omega⟩ : Fin 78).val = 7 + i.val := rfl
    generalize (⟨7 + i.val, by omega⟩ : Fin 78) = k at hk
    simp (disch := omega) only [row4_skip, row2_skip, rect18_hit (l := i) (j := j), rect48_skip]
  unfold entry
  rw [sum_stretch _ 7 (by norm_num) hM0, hC, flagsBase_at,
    sum_pairs_named (fun i e k => tables V0 (ix3 i 0 e) * weights V0 (ix2 j k)),
    sum_pairs_named (fun i e k => tables V0 (ix3 i (row 2 (by norm_num) (x ⟨7 + i.val, by omega⟩)) e) * weights V0 (ix2 j k))]
  refine (congrArg (· + _) (Finset.sum_congr rfl fun i _ => congrArg (x ⟨7 + i.val, by omega⟩ * ·) ((hM1 i).trans (flagsStep_at V0 i j)))).trans
    ((sum_flags (fun i => x ⟨7 + i.val, by omega⟩) (fun i e => tables V0 (ix3 i 0 e)) (fun i e => tables V0 (ix3 i 1 e))
      (fun i e => weights V0 (ix2 j ⟨2 * i.val + e.val, by omega⟩)) _ hx ht (fun i e => hw _)).trans ?_)
  refine congrArg (· + _) (Finset.sum_congr rfl fun i _ => Finset.sum_congr rfl fun e _ => congrArg (· * _) ?_)
  rcases hx i with h | h
  · simp only [h, bit_zero, if_pos]
    exact congrArg (fun q => tables V0 (ix3 i q e)) (Fin.ext bit_zero.symm)
  · simp only [h, bit_one, one_ne_zero, if_false]
    exact congrArg (fun q => tables V0 (ix3 i q e)) (Fin.ext bit_one.symm)

/-- Columns 48 to 63: the bonds' features against their weights, and the bias. -/
theorem entry_bonds (j : Fin 16) (c : Fin 64) (hc : c.val = 48 + j.val) :
    entry V0 x c = ∑ k : Fin 48, x ⟨30 + k.val, by omega⟩ * (V0 (Proc.devRef .tc main_arg16) : FVec Ideal (shape2 16 48) .f32) (ix2 j k)
      + (V0 (Proc.devRef .tc main_arg17) : FVec Ideal (shape1 16) .f32) (ix1 j) := by
  have hj := j.isLt
  have hC : vec V0 (ix1 c) = (V0 (Proc.devRef .tc main_arg17) : FVec Ideal (shape1 16) .f32) (ix1 j) := by
    unfold vec
    exact seg16_hit 48 (by norm_num) _ _ j c hc
  have hM0 : ∀ k : Fin 78, k.val < 30 ∨ 30 + 48 ≤ k.val → x k * mat V0 (ix2 k c) = 0 := fun k hk => by
    have h : mat V0 (ix2 k c) = blank (ix2 k c) := by
      unfold mat
      simp (disch := omega) only [row4_skip, row2_skip, rect18_skip, rect48_skip]
    rw [h, blank_at, mul_zero]
  unfold entry
  rw [sum_stretch _ 30 (by norm_num) hM0, hC]
  refine congrArg (· + _) (Finset.sum_congr rfl fun k _ => congrArg (x ⟨30 + k.val, by omega⟩ * ·) ?_)
  unfold mat
  exact (rect48_hit 30 48 (by norm_num) (by norm_num) _ _ k j (⟨30 + k.val, by omega⟩ : Fin 78) c rfl hc).trans (turned _ k j)

end Cert.Atoms.Ker
-- ==== Proof.KernelValue.lean ====
/-
  The kernel's result array after its run: every entry is the row of features against the matrix's column, and the vector's entry.
-/
module

public import proofs.«01_k».proof.Proof.KernelEntries
public import proofs.«01_k».proof.Proof.Gen.KernelIdeal.Value
public import Idealize.ShloMosaic.Lib.ValueIdxCoords
import Idealize.ShloMosaic.Lib.Pipeline.ValueKit

@[expose] public section

noncomputable section

namespace Cert.Atoms.Ker

open Idealize.ShloMosaic Idealize.ShloMosaic.TcCoe Cert.KernelIdeal Cert.KernelIdeal.Gen

variable (m : (ℓ : Loc nD τ sig) → Buf (Elt Ideal) ℓ)

/-- What one device holds at the launch. -/
abbrev atLaunch (c : Dev nD) : Valuation τ sig (Elt Ideal) := fun b => m (c, b)

/-- The matrix as the launch finds it. -/
theorem launch_mat (c : Dev nD) : V m c main_v165 = mat (atLaunch m c) := by
  show StableHlo.after (List.flatten [hostOps0, hostOps0_1]) (atLaunch m c) (Proc.devRef .tc main_v165) = _
  simp only [List.flatten_cons, List.flatten_nil, List.append_nil]
  exact host_mat _

/-- The vector as the launch finds it. -/
theorem launch_vec (c : Dev nD) : V m c main_call0_v0 = shapeCast S1x64 (vec (atLaunch m c)) shapeCasts_S64_S1x64 := by
  show StableHlo.after (List.flatten [hostOps0, hostOps0_1]) (atLaunch m c) (Proc.devRef .tc main_call0_v0) = _
  simp only [List.flatten_cons, List.flatten_nil, List.append_nil]
  exact host_vec _

/-- The features at the launch. -/
abbrev features (c : Dev nD) : FVec Ideal S500000x78 .f32 := m ((c : Thread nD τ).loc main_arg0)

/-- The result array: `entry` of every row of features. -/
def result (c : Dev nD) : Buf (Elt Ideal) ((c : Thread nD τ).loc main_v166) :=
  fun i : S500000x64.Idx => entry (atLaunch m c) (fun k => features m c (ValueIdx.ix2 (i 0) k)) (i 1)

/-- Every window's block index at a grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The features' block at a grid point, at an entry. -/
theorem block_features (c : Dev nD) (t : Fin cfg0.N) (r : Fin 20000) (k : Fin 78) (R : Fin 500000) (hR : R.val = t.val * 20000 + r.val) :
    iblk m c 0 t (ValueIdx.ix2 r k) = features m c (ValueIdx.ix2 R k) := by
  blk_ext [iblk, V_main_arg0, idx t]
  exact hR.symm

/-- The matrix's block is the matrix. -/
theorem block_mat (c : Dev nD) (t : Fin cfg0.N) (k : Fin 78) (q : Fin 64) :
    iblk m c 1 t (ValueIdx.ix2 k q) = mat (atLaunch m c) (ValueIdx.ix2 k q) := by
  rw [← launch_mat]
  blk_ext [iblk, idx t]

/-- The vector's block is the vector. -/
theorem block_vec (c : Dev nD) (t : Fin cfg0.N) (q : Fin 64) :
    iblk m c 2 t (ValueIdx.ix2 (0 : Fin 1) q) = vec (atLaunch m c) (ValueIdx.ix1 q) := by
  have h : iblk m c 2 t (ValueIdx.ix2 (0 : Fin 1) q) = (V m c main_call0_v0 : FVec Ideal S1x64 .f32) (ValueIdx.ix2 (0 : Fin 1) q) := by
    blk_ext [iblk, idx t]
  rw [h, launch_vec]
  refine shapeCast_apply _ shapeCasts_S64_S1x64 _ (ValueIdx.ix1 q) ?_
  rw [Shape.rowMajor_val_one, Shape.rowMajor_val_two]
  show q.val = 0 * 64 + q.val
  omega

/-- The result array after the run. -/
theorem final (c : Dev nD) : (dats m 0 c).arrAt 3 cfg0.N = result m c := by
  refine (dats m 0 c).arrAt_eq_of_covers 3 _ (by decide +kernel) fun t hf y => ?_
  blk_simp
  rw [after0_3]
  frame_out
  have hy : y = ValueIdx.ix2 (n0 := 20000) (n1 := 64) (y 0) (y 1) := ValueIdx.eq_ix2 y
  generalize (y 0 : Fin 20000) = r at hy
  generalize (y 1 : Fin 64) = q at hy
  subst hy
  refine (block_entry _ _ _ r q).trans ?_
  have ht : t.val < 25 := t.isLt
  have hr : r.val < 20000 := r.isLt
  have he : ((View.whole main_v166).slice (win0_3.rect t)).emb (ValueIdx.ix2 r q)
      = ValueIdx.ix2 (⟨t.val * 20000 + r.val, by omega⟩ : Fin 500000) (q : Fin 64) := by
    blk_ext [idx t]
  rw [he]
  exact congrArg₂ (fun x y : EReal => x + y)
    (Finset.sum_congr rfl fun k _ => congrArg₂ (fun x y : EReal => x * y) (block_features m c t r k _ rfl) (block_mat m c t k q)) (block_vec m c t q)

end Cert.Atoms.Ker
-- ==== Proof.Precondition.lean ====
/-
  What the precondition says of the arguments: the features that select rows are zero or one, and the entries that the
  kernel subtracts are not infinite.
-/
module

public import proofs.«01_k».proof.Defs
public import proofs.«01_k».proof.Proof.Lookup
public import proofs.«01_k».proof.Proof.Algebra
public import Idealize.ShloMosaic.PureOps.Ideal.Laws
import Idealize.ShloMosaic.Lib.IdealHost

@[expose] public section

noncomputable section

/-! ## The shape relations the predicate states -/

instance Cert.Atoms.stated : Cert.Pre_binary_features.Facts := by
  constructor <;> decide +kernel

namespace Cert.Atoms

open Idealize.ShloMosaic Idealize.ShloMosaic.Routing Idealize.ShloMosaic.ValueIdx

/-! ## Reading one comparison -/

theorem top_word : Ideal.ofBits .f32 0x7F800000#32 = ⊤ := by simp [Ideal.ofBits, Ideal.ieee]
theorem bot_word : Ideal.ofBits .f32 0xFF800000#32 = ⊥ := by simp [Ideal.ofBits, Ideal.ieee]

/-- A number found equal to zero or to one is. -/
theorem zero_or_one (x : EReal) (h : Ideal.cmp .oeq x (Ideal.ofBits .f32 0x00000000#32) ||| Ideal.cmp .oeq x (Ideal.ofBits .f32 0x3F800000#32) = 1#1) :
    x = 0 ∨ x = 1 := by
  rw [Ideal.ofBits_zero_f32, Ideal.ofBits_one_f32] at h
  by_contra hcon
  rw [not_or] at hcon
  simp [Ideal.cmp, hcon.1, hcon.2] at h

/-- A number found between the infinities is not infinite. -/
theorem between (x : EReal) (h : Ideal.cmp .ogt x (Ideal.ofBits .f32 0xFF800000#32) &&& Ideal.cmp .olt x (Ideal.ofBits .f32 0x7F800000#32) = 1#1) :
    IsReal x := by
  rw [top_word, bot_word] at h
  induction x with
  | bot => simp [Ideal.cmp] at h
  | top => simp [Ideal.cmp] at h
  | coe y => exact ⟨y, rfl⟩

/-- The same of an array, at every entry. -/
theorem between_at {s : Shape} (x : FVec Ideal s .f32) (b : (⟨0, ![]⟩ : Shape).BroadcastsInDim s (![] : Fin 0 → Fin s.rank))
    (h : andi (cmpf .ogt x (broadcastInDim s ![] b (constant ⟨0, ![]⟩ .f32 0xFF800000#32)))
      (cmpf .olt x (broadcastInDim s ![] b (constant ⟨0, ![]⟩ .f32 0x7F800000#32))) = fun _ => 1#1) (i : s.Idx) : IsReal (x i) :=
  between (x i) (congrFun h i)

/-- The same of row 0 of a table. -/
theorem between_row {n w : Nat} (t : FVec Ideal (shape2 n w) .f32) (z : Fin n) (hz : z.val = 0) (hs : (shape2 n w).Slices ![0, 0] (shape2 1 w))
    (hc : (shape2 1 w).ShapeCasts (shape1 w)) (b : (⟨0, ![]⟩ : Shape).BroadcastsInDim (shape1 w) (![] : Fin 0 → Fin (shape1 w).rank))
    (h : andi (cmpf .ogt (shapeCast (shape1 w) (extractStridedSlice (shape2 1 w) ![0, 0] t hs) hc)
        (broadcastInDim (shape1 w) ![] b (constant ⟨0, ![]⟩ .f32 0xFF800000#32)))
      (cmpf .olt (shapeCast (shape1 w) (extractStridedSlice (shape2 1 w) ![0, 0] t hs) hc)
        (broadcastInDim (shape1 w) ![] b (constant ⟨0, ![]⟩ .f32 0x7F800000#32))) = fun _ => 1#1) (j : Fin w) : IsReal (t (ix2 z j)) := by
  rw [← row_at 0 t hs hc j z hz]
  exact between_at _ b h (ix1 j)

/-! ## The precondition -/

variable (m : (ℓ : Loc Cert.KernelIdeal.nD Cert.KernelIdeal.τ Cert.KernelIdeal.sig) → Buf (Elt Ideal) ℓ) (c : Dev Cert.KernelIdeal.nD)

/-- An argument of the kernel on a device. -/
abbrev arg (b : Ref Cert.KernelIdeal.sig .tc) : Buf (Elt Ideal) ((c.tc : Thread Cert.KernelIdeal.nD Cert.KernelIdeal.τ).loc b) :=
  m ((c.tc : Thread Cert.KernelIdeal.nD Cert.KernelIdeal.τ).loc b)

/-- The features. -/
abbrev atoms : FVec Ideal (shape2 500000 78) .f32 := arg m c Cert.KernelIdeal.main_arg0

/-- The features that select rows are zero or one. -/
theorem features_binary (h : Cert.Pre_KernelIdeal_binary_features m) (r : Fin 500000) (k : Fin 78) (hk : k.val < 30) :
    atoms m c (ix2 r k) = 0 ∨ atoms m c (ix2 r k) = 1 := by
  have e : extractStridedSlice (shape2 500000 30) ![0, 0] (atoms m c)
      stated.slices_S500000x78_S500000x30_0_0 (ix2 r ⟨k.val, hk⟩) = atoms m c (ix2 r k) :=
    block_at 0 0 _ _ r ⟨k.val, hk⟩ r k (by simp) (by simp)
  rw [← e]
  exact zero_or_one _ (congrFun (h c).1 (ix2 r ⟨k.val, hk⟩))

/-- What the kernel subtracts is not infinite: row 0 of every table that a feature selects from, and the flags' weights. -/
structure Tame : Prop where
  degree : ∀ j : Fin 4, IsReal ((arg m c Cert.KernelIdeal.main_arg2 : FVec Ideal (shape2 7 4) .f32) (ix2 0 j))
  charge : ∀ j : Fin 4, IsReal ((arg m c Cert.KernelIdeal.main_arg4 : FVec Ideal (shape2 8 4) .f32) (ix2 0 j))
  aromatic : ∀ j : Fin 4, IsReal ((arg m c Cert.KernelIdeal.main_arg5 : FVec Ideal (shape2 2 4) .f32) (ix2 0 j))
  hybrid : ∀ j : Fin 4, IsReal ((arg m c Cert.KernelIdeal.main_arg6 : FVec Ideal (shape2 6 4) .f32) (ix2 0 j))
  hydrogen : ∀ j : Fin 4, IsReal ((arg m c Cert.KernelIdeal.main_arg7 : FVec Ideal (shape2 5 4) .f32) (ix2 0 j))
  flags : ∀ (i : Fin 18) (e : Fin 2), IsReal ((arg m c Cert.KernelIdeal.main_arg8 : FVec Ideal (shape3 18 2 2) .f32) (ix3 i 0 e))
  donor : ∀ j : Fin 2, IsReal ((arg m c Cert.KernelIdeal.main_arg9 : FVec Ideal (shape2 2 2) .f32) (ix2 0 j))
  acceptor : ∀ j : Fin 2, IsReal ((arg m c Cert.KernelIdeal.main_arg10 : FVec Ideal (shape2 2 2) .f32) (ix2 0 j))
  ringsize : ∀ j : Fin 4, IsReal ((arg m c Cert.KernelIdeal.main_arg11 : FVec Ideal (shape2 7 4) .f32) (ix2 0 j))
  aromaNum : ∀ j : Fin 4, IsReal ((arg m c Cert.KernelIdeal.main_arg12 : FVec Ideal (shape2 5 4) .f32) (ix2 0 j))
  fused : ∀ j : Fin 4, IsReal ((arg m c Cert.KernelIdeal.main_arg13 : FVec Ideal (shape2 8 4) .f32) (ix2 0 j))
  weights : ∀ (j : Fin 4) (k : Fin 36), IsReal ((arg m c Cert.KernelIdeal.main_arg14 : FVec Ideal (shape2 4 36) .f32) (ix2 j k))

/-- The precondition says so. -/
theorem tame (h : Cert.Pre_KernelIdeal_binary_features m) : Tame m c := by
  obtain ⟨-, h2, h4, h5, h6, h7, h8, h9, h10, h11, h12, h13, h14⟩ := h c
  refine ⟨between_row _ 0 rfl _ _ _ h2, between_row _ 0 rfl _ _ _ h4, between_row _ 0 rfl _ _ _ h5, between_row _ 0 rfl _ _ _ h6,
    between_row _ 0 rfl _ _ _ h7, fun i e => ?_, between_row _ 0 rfl _ _ _ h9, between_row _ 0 rfl _ _ _ h10, between_row _ 0 rfl _ _ _ h11,
    between_row _ 0 rfl _ _ _ h12, between_row _ 0 rfl _ _ _ h13, fun j k => between_at _ _ h14 (ix2 j k)⟩
  exact (congrArg IsReal (layer_at 0 _ _ _ i e 0 rfl)).mp (between_at _ _ h8 (ix2 i e))

end Cert.Atoms
-- ==== Proof.RefDots.lean ====
/-
  The reference's two dense products read at an entry.
-/
module

public import proofs.«01_k».proof.ReferenceIdeal
public import Idealize.ShloMosaic.Lib.ValueIdxCore
public import Idealize.ShloMosaic.PureOps.Ideal
import Idealize.ShloMosaic.Lib.Pointwise

@[expose] public section

noncomputable section

namespace Cert.Atoms.Ref

open Idealize.ShloMosaic Cert.ReferenceIdeal Cert.ReferenceIdeal.Facts₀

variable [Cert.ReferenceIdeal.Facts]

/-- The product with the transposed 4 × 36 weights. -/
theorem flags_dot (x : FVec Ideal S500000x36 .f32) (w : FVec Ideal S4x36 .f32) (r : Fin 500000) (j : Fin 4) :
    Host.dotGeneral dot_S500000x36_S36x4_S500000x4_1_0_0_1_n_n none x (transpose S36x4 [1, 0] w transposes_S4x36_S36x4_1_0) (ValueIdx.ix2 r j)
      = ∑ k : Fin 36, x (ValueIdx.ix2 r k) * w (ValueIdx.ix2 j k) := by
  pointwise
  rfl

/-- The product with the transposed 16 × 48 weights. -/
theorem bonds_dot (x : FVec Ideal S500000x48 .f32) (w : FVec Ideal S16x48 .f32) (r : Fin 500000) (j : Fin 16) :
    Host.dotGeneral dot_S500000x48_S48x16_S500000x16_1_0_0_1_n_n none x (transpose S48x16 [1, 0] w transposes_S16x48_S48x16_1_0) (ValueIdx.ix2 r j)
      = ∑ k : Fin 48, x (ValueIdx.ix2 r k) * w (ValueIdx.ix2 j k) := by
  pointwise
  rfl

end Cert.Atoms.Ref
-- ==== Proof.Reference.lean ====
/-
  The reference's result, column group by column group, where the features that select rows are zero or one: every lookup is
  row 0 or row 1 of its table, and the two dense groups are sums.
-/
module

public import proofs.«01_k».proof.Proof.Gen.ReferenceIdeal.Run
public import proofs.«01_k».proof.Proof.Bits
public import proofs.«01_k».proof.Proof.RefDots

@[expose] public section

noncomputable section

namespace Cert.Atoms.Ref

open Idealize.ShloMosaic Idealize.ShloMosaic.Routing Idealize.ShloMosaic.ValueIdx Cert.ReferenceIdeal Cert.ReferenceIdeal.Value
open Cert.ReferenceIdeal.Gen

/-- The features an execution starts with. -/
abbrev feat (V0 : Valuation τ sig (Elt Ideal)) : FVec Ideal (shape2 500000 78) .f32 := V0 (Proc.devRef .tc main_arg0)

/-- The features that select rows are zero or one. -/
abbrev Binary (V0 : Valuation τ sig (Elt Ideal)) : Prop :=
  ∀ (r : Fin 500000) (k : Fin 78), k.val < 30 → feat V0 (ix2 r k) = 0 ∨ feat V0 (ix2 r k) = 1

variable (V0 : Valuation τ sig (Elt Ideal)) (H : Binary V0)
include H

/-- The row that feature `k` selects in row `r`. -/
abbrev sel (n : Nat) (hn : 1 < n) (V0 : Valuation τ sig (Elt Ideal)) (k : Fin 78) (r : Fin 500000) : Fin n := row n hn (feat V0 (ix2 r k))

omit H in
/-- A vector of words read at a place, where it is column `k` of the features truncated. -/
theorem word_at (k : Nat) (k' : Fin 78) (hk : k'.val = k) (h30 : k < 30) (H : Binary V0) (hs hc) (r : Fin 500000) :
    fptosi 32 (shapeCast (shape1 500000) (extractStridedSlice (shape2 500000 1) ![0, k] (feat V0) hs) hc) (ix1 r)
      = BitVec.ofNat 32 (bit (feat V0 (ix2 r k'))) := by
  show Ideal.fptosi 32 (shapeCast (shape1 500000) (extractStridedSlice (shape2 500000 1) ![0, k] (feat V0) hs) hc (ix1 r)) = _
  rw [column_at k (feat V0) hs hc r k' hk, word_of_bit _ (H r k' (hk ▸ h30))]

/-- Columns 0 to 3: the element is found in row 0, whatever the feature. -/
theorem element (r : Fin 500000) (j : Fin 4) (c : Fin 64) (hc : 0 + j.val = c.val) :
    res_main_v204 V0 (ix2 r c) = (V0 (Proc.devRef .tc main_arg1) : FVec Ideal (shape2 7 4) .f32) (ix2 0 j) := by
  have h2 : ∀ r, res_main_v2 V0 (ix1 r) = BitVec.ofNat 32 (bit (feat V0 (ix2 r 0))) := word_at V0 0 0 rfl (by norm_num) H _ _
  have h8 : ∀ r, res_main_v8 V0 (ix1 r) = BitVec.ofNat 32 (row 17 (by norm_num) (feat V0 (ix2 r 0))).val := fun r => by
    show Scalar.select (IntOp.andi (IntOp.cmpi .sge (res_main_v2 V0 (ix1 r)) 0#32) (IntOp.cmpi .sle (res_main_v2 V0 (ix1 r)) 16#32))
      (res_main_v2 V0 (ix1 r)) 0#32 = BitVec.ofNat 32 (bit (feat V0 (ix2 r 0)))
    rw [h2]
    rcases Nat.le_one_iff_eq_zero_or_eq_one.1 (bit_le (feat V0 (ix2 r 0))) with h | h <;> rw [h] <;> rfl
  have hv : ∀ r, res_main_v16 V0 (ix1 r) = BitVec.ofNat 32 ((fun _ => 0 : Fin 500000 → Fin 7) r).val := fun r => by
    refine clip_at _ _ _ 6 0 (by norm_num) (by norm_num) _ rfl rfl ?_
    refine (gather_take1 _ rfl rfl rfl rfl _ _ r (row 17 (by norm_num) (feat V0 (ix2 r 0)))
      (index_at _ _ _ (fun _ => rfl) _ r _ (by have := bit_le (feat V0 (ix2 r 0)); show bit _ < _; omega) (h8 r)) (by norm_num)).trans ?_
    have key : ∀ b : Fin 17, b.val ≤ 1 → lit0 (S17.rowMajor (ix1 b)) = 0#32 := by decide
    exact key _ (bit_le _)
  exact lookup_piece (p := 0) (pre := 0) (by norm_num) (by show 0 < 14; decide) hv rfl rfl (fun _ => rfl) (fun _ => rfl) (fun _ => rfl)
    rfl rfl rfl rfl rfl rfl hc

/-- Columns 4 to 7: the degree's row. -/
theorem degree (r : Fin 500000) (j : Fin 4) (c : Fin 64) (hc : 4 + j.val = c.val) :
    res_main_v204 V0 (ix2 r c) = (V0 (Proc.devRef .tc main_arg2) : FVec Ideal (shape2 7 4) .f32) (ix2 (sel 7 (by norm_num) V0 1 r) j) := by
  have hv : ∀ r, res_main_v21 V0 (ix1 r) = BitVec.ofNat 32 (sel 7 (by norm_num) V0 1 r).val := fun r =>
    feature_index (feat V0) 6 (by norm_num) (by norm_num) _ _ (fun _ => rfl) (fun _ => rfl) 1 _ _ 1 rfl r (H r 1 (by decide))
  exact lookup_piece (p := 1) (pre := 4) (by norm_num) (by show 1 < 14; decide) hv rfl rfl (fun _ => rfl) (fun _ => rfl) (fun _ => rfl)
    rfl rfl rfl rfl rfl rfl hc

/-- Columns 8 to 11: the ring feature, shifted up by one before its clip, finds row 1 whether it is zero or one. -/
theorem ring (r : Fin 500000) (j : Fin 4) (c : Fin 64) (hc : 8 + j.val = c.val) :
    res_main_v204 V0 (ix2 r c) = (V0 (Proc.devRef .tc main_arg3) : FVec Ideal (shape2 2 4) .f32) (ix2 1 j) := by
  have hv : ∀ r, res_main_v28 V0 (ix1 r) = BitVec.ofNat 32 ((fun _ => 1 : Fin 500000 → Fin 2) r).val := fun r => by
    have hw := word_at V0 5 5 rfl (by norm_num) H slices_S500000x78_S500000x1_0_5 shapeCasts_S500000x1_S500000 r
    show IntOp.minsi 1#32 (IntOp.maxsi 0#32 (IntOp.addi (fptosi 32 (shapeCast (shape1 500000) (extractStridedSlice (shape2 500000 1) ![0, 5] (feat V0)
      slices_S500000x78_S500000x1_0_5) shapeCasts_S500000x1_S500000) (ix1 r)) 1#32)) = 1#32
    rw [hw]
    rcases Nat.le_one_iff_eq_zero_or_eq_one.1 (bit_le (feat V0 (ix2 r 5))) with h | h <;> rw [h] <;> rfl
  exact lookup_piece (p := 2) (pre := 8) (by norm_num) (by show 2 < 14; decide) hv rfl rfl (fun _ => rfl) (fun _ => rfl) (fun _ => rfl)
    rfl rfl rfl rfl rfl rfl hc

/-- Columns 12 to 15: the charge's row. -/
theorem charge (r : Fin 500000) (j : Fin 4) (c : Fin 64) (hc : 12 + j.val = c.val) :
    res_main_v204 V0 (ix2 r c) = (V0 (Proc.devRef .tc main_arg4) : FVec Ideal (shape2 8 4) .f32) (ix2 (sel 8 (by norm_num) V0 2 r) j) := by
  have hv : ∀ r, res_main_v33 V0 (ix1 r) = BitVec.ofNat 32 (sel 8 (by norm_num) V0 2 r).val := fun r =>
    feature_index (feat V0) 7 (by norm_num) (by norm_num) _ _ (fun _ => rfl) (fun _ => rfl) 2 _ _ 2 rfl r (H r 2 (by decide))
  exact lookup_piece (p := 3) (pre := 12) (by norm_num) (by show 3 < 14; decide) hv rfl rfl (fun _ => rfl) (fun _ => rfl) (fun _ => rfl)
    rfl rfl rfl rfl rfl rfl hc

/-- Columns 16 to 19: the aromatic feature's row. -/
theorem aromatic (r : Fin 500000) (j : Fin 4) (c : Fin 64) (hc : 16 + j.val = c.val) :
    res_main_v204 V0 (ix2 r c) = (V0 (Proc.devRef .tc main_arg5) : FVec Ideal (shape2 2 4) .f32) (ix2 (sel 2 (by norm_num) V0 4 r) j) := by
  have hv : ∀ r, res_main_v38 V0 (ix1 r) = BitVec.ofNat 32 (sel 2 (by norm_num) V0 4 r).val := fun r =>
    feature_index (feat V0) 1 (by norm_num) (by norm_num) _ _ (fun _ => rfl) (fun _ => rfl) 4 _ _ 4 rfl r (H r 4 (by decide))
  exact lookup_piece (p := 4) (pre := 16) (by norm_num) (by show 4 < 14; decide) hv rfl rfl (fun _ => rfl) (fun _ => rfl) (fun _ => rfl)
    rfl rfl rfl rfl rfl rfl hc

/-- Columns 20 to 23: the hybridisation's row. -/
theorem hybrid (r : Fin 500000) (j : Fin 4) (c : Fin 64) (hc : 20 + j.val = c.val) :
    res_main_v204 V0 (ix2 r c) = (V0 (Proc.devRef .tc main_arg6) : FVec Ideal (shape2 6 4) .f32) (ix2 (sel 6 (by norm_num) V0 3 r) j) := by
  have hv : ∀ r, res_main_v43 V0 (ix1 r) = BitVec.ofNat 32 (sel 6 (by norm_num) V0 3 r).val := fun r =>
    feature_index (feat V0) 5 (by norm_num) (by norm_num) _ _ (fun _ => rfl) (fun _ => rfl) 3 _ _ 3 rfl r (H r 3 (by decide))
  exact lookup_piece (p := 5) (pre := 20) (by norm_num) (by show 5 < 14; decide) hv rfl rfl (fun _ => rfl) (fun _ => rfl) (fun _ => rfl)
    rfl rfl rfl rfl rfl rfl hc

/-- Columns 24 to 27: the hydrogen count's row. -/
theorem hydrogen (r : Fin 500000) (j : Fin 4) (c : Fin 64) (hc : 24 + j.val = c.val) :
    res_main_v204 V0 (ix2 r c) = (V0 (Proc.devRef .tc main_arg7) : FVec Ideal (shape2 5 4) .f32) (ix2 (sel 5 (by norm_num) V0 6 r) j) := by
  have hv : ∀ r, res_main_v48 V0 (ix1 r) = BitVec.ofNat 32 (sel 5 (by norm_num) V0 6 r).val := fun r =>
    feature_index (feat V0) 4 (by norm_num) (by norm_num) _ _ (fun _ => rfl) (fun _ => rfl) 6 _ _ 6 rfl r (H r 6 (by decide))
  exact lookup_piece (p := 6) (pre := 24) (by norm_num) (by show 6 < 14; decide) hv rfl rfl (fun _ => rfl) (fun _ => rfl) (fun _ => rfl)
    rfl rfl rfl rfl rfl rfl hc

/-- Columns 32 and 33: the donor feature's row. -/
theorem donor (r : Fin 500000) (j : Fin 2) (c : Fin 64) (hc : 32 + j.val = c.val) :
    res_main_v204 V0 (ix2 r c) = (V0 (Proc.devRef .tc main_arg9) : FVec Ideal (shape2 2 2) .f32) (ix2 (sel 2 (by norm_num) V0 25 r) j) := by
  have hv : ∀ r, res_main_v154 V0 (ix1 r) = BitVec.ofNat 32 (sel 2 (by norm_num) V0 25 r).val := fun r =>
    feature_index (feat V0) 1 (by norm_num) (by norm_num) _ _ (fun _ => rfl) (fun _ => rfl) 25 _ _ 25 rfl r (H r 25 (by decide))
  exact lookup_piece (p := 8) (pre := 32) (by norm_num) (by show 8 < 14; decide) hv rfl rfl (fun _ => rfl) (fun _ => rfl) (fun _ => rfl)
    rfl rfl rfl rfl rfl rfl hc

/-- Columns 34 and 35: the acceptor feature's row. -/
theorem acceptor (r : Fin 500000) (j : Fin 2) (c : Fin 64) (hc : 34 + j.val = c.val) :
    res_main_v204 V0 (ix2 r c) = (V0 (Proc.devRef .tc main_arg10) : FVec Ideal (shape2 2 2) .f32) (ix2 (sel 2 (by norm_num) V0 26 r) j) := by
  have hv : ∀ r, res_main_v159 V0 (ix1 r) = BitVec.ofNat 32 (sel 2 (by norm_num) V0 26 r).val := fun r =>
    feature_index (feat V0) 1 (by norm_num) (by norm_num) _ _ (fun _ => rfl) (fun _ => rfl) 26 _ _ 26 rfl r (H r 26 (by decide))
  exact lookup_piece (p := 9) (pre := 34) (by norm_num) (by show 9 < 14; decide) hv rfl rfl (fun _ => rfl) (fun _ => rfl) (fun _ => rfl)
    rfl rfl rfl rfl rfl rfl hc

/-- Columns 36 to 39: a ring size of zero finds row 0, a ring size of one finds row 6. -/
theorem ringsize (r : Fin 500000) (j : Fin 4) (c : Fin 64) (hc : 36 + j.val = c.val) :
    res_main_v204 V0 (ix2 r c) = (V0 (Proc.devRef .tc main_arg11) : FVec Ideal (shape2 7 4) .f32)
      (ix2 (⟨6 * bit (feat V0 (ix2 r 27)), by have := bit_le (feat V0 (ix2 r 27)); omega⟩ : Fin 7) j) := by
  have h163 : ∀ r, res_main_v163 V0 (ix1 r) = BitVec.ofNat 32 (bit (feat V0 (ix2 r 27))) := word_at V0 27 27 rfl (by norm_num) H _ _
  have hv : ∀ r, res_main_v186 V0 (ix1 r)
      = BitVec.ofNat 32 (⟨6 * bit (feat V0 (ix2 r 27)), by have := bit_le (feat V0 (ix2 r 27)); omega⟩ : Fin 7).val := fun r => by
    have spell : ∀ w : BitVec 32, res_main_v163 V0 (ix1 r) = w → res_main_v186 V0 (ix1 r) = IntOp.minsi 6#32 (IntOp.maxsi 0#32
        (Scalar.select (IntOp.cmpi .eq w 8#32) 6#32 (Scalar.select (IntOp.cmpi .eq w 7#32) 5#32 (Scalar.select (IntOp.cmpi .eq w 6#32) 4#32
          (Scalar.select (IntOp.cmpi .eq w 5#32) 3#32 (Scalar.select (IntOp.cmpi .eq w 4#32) 2#32 (Scalar.select (IntOp.cmpi .eq w 3#32) 1#32
            (Scalar.select (IntOp.cmpi .eq w 0#32) 0#32 6#32)))))))) := fun w hw => by rw [← hw]; rfl
    rw [spell _ (h163 r)]
    show _ = BitVec.ofNat 32 (6 * bit (feat V0 (ix2 r 27)))
    rcases Nat.le_one_iff_eq_zero_or_eq_one.1 (bit_le (feat V0 (ix2 r 27))) with h | h <;> rw [h] <;> rfl
  exact lookup_piece (p := 10) (pre := 36) (by norm_num) (by show 10 < 14; decide) hv rfl rfl (fun _ => rfl) (fun _ => rfl) (fun _ => rfl)
    rfl rfl rfl rfl rfl rfl hc

/-- Columns 40 to 43: the aromatic count's row. -/
theorem aromaNum (r : Fin 500000) (j : Fin 4) (c : Fin 64) (hc : 40 + j.val = c.val) :
    res_main_v204 V0 (ix2 r c) = (V0 (Proc.devRef .tc main_arg12) : FVec Ideal (shape2 5 4) .f32) (ix2 (sel 5 (by norm_num) V0 28 r) j) := by
  have hv : ∀ r, res_main_v191 V0 (ix1 r) = BitVec.ofNat 32 (sel 5 (by norm_num) V0 28 r).val := fun r =>
    feature_index (feat V0) 4 (by norm_num) (by norm_num) _ _ (fun _ => rfl) (fun _ => rfl) 28 _ _ 28 rfl r (H r 28 (by decide))
  exact lookup_piece (p := 11) (pre := 40) (by norm_num) (by show 11 < 14; decide) hv rfl rfl (fun _ => rfl) (fun _ => rfl) (fun _ => rfl)
    rfl rfl rfl rfl rfl rfl hc

/-- Columns 44 to 47: the fused feature's row. -/
theorem fused (r : Fin 500000) (j : Fin 4) (c : Fin 64) (hc : 44 + j.val = c.val) :
    res_main_v204 V0 (ix2 r c) = (V0 (Proc.devRef .tc main_arg13) : FVec Ideal (shape2 8 4) .f32) (ix2 (sel 8 (by norm_num) V0 29 r) j) := by
  have hv : ∀ r, res_main_v196 V0 (ix1 r) = BitVec.ofNat 32 (sel 8 (by norm_num) V0 29 r).val := fun r =>
    feature_index (feat V0) 7 (by norm_num) (by norm_num) _ _ (fun _ => rfl) (fun _ => rfl) 29 _ _ 29 rfl r (H r 29 (by decide))
  exact lookup_piece (p := 12) (pre := 44) (by norm_num) (by show 12 < 14; decide) hv rfl rfl (fun _ => rfl) (fun _ => rfl) (fun _ => rfl)
    rfl rfl rfl rfl rfl rfl hc

/-- The flag that feature `7 + i` sets in row `r`: a row of table `i`. -/
def flag (V0 : Valuation τ sig (Elt Ideal)) (i : Fin 18) (r : Fin 500000) (e : Fin 2) : EReal :=
  (V0 (Proc.devRef .tc main_arg8) : FVec Ideal (shape3 18 2 2) .f32) (ix3 i (sel 2 (by norm_num) V0 ⟨7 + i.val, by omega⟩ r) e)

/-- The clipped index of flag `i`. -/
theorem flag_index (k : Nat) (i : Fin 18) (hi : i.val = k) (hs hc) (r : Fin 500000) :
    shapeCast (shape1 500000) (extractStridedSlice (shape2 500000 1) ![0, k] (res_main_v52 V0) hs) hc (ix1 r)
      = BitVec.ofNat 32 (sel 2 (by norm_num) V0 ⟨7 + i.val, by omega⟩ r).val := by
  refine (column_at k (res_main_v52 V0) hs hc r i hi).trans ?_
  refine clip_at _ _ _ 1 _ (by norm_num) (bit_le _) _ rfl rfl ?_
  show Ideal.fptosi 32 (extractStridedSlice (shape2 500000 18) ![0, 7] (feat V0) slices_S500000x78_S500000x18_0_7 (ix2 r i)) = _
  rw [block_at 0 7 (feat V0) _ r i r ⟨7 + i.val, by omega⟩ (by simp) rfl]
  exact word_of_bit _ (H r _ (by show 7 + i.val < 30; omega))

/-- One flag's lookup as it is printed, read at an entry. -/
theorem flag_piece (k : Nat) (i : Fin 18) (hi : i.val = k) (hs hc hs' hc' z nv h lo up) (hz : ∀ i, z i = 0#32) (hlo : ∀ i, lo i = 0#32)
    (hup : ∀ i, up i = BitVec.ofNat 32 (2 - 1)) (hu) (hb : (shape1 500000).BroadcastsInDim (shape2 500000 2) (![0] : Fin 1 → Fin (shape2 500000 2).rank)) (nan : (shape2 500000 2).Idx → EReal) (v : IVec (shape1 500000) 32)
    (hv : v = shapeCast (shape1 500000) (extractStridedSlice (shape2 500000 1) ![0, k] (res_main_v52 V0) hs) hc) (r : Fin 500000) (e : Fin 2) :
    select (broadcastInDim (shape2 500000 2) ![0] hb (Host.reduce IntOp.andi
        (andi (cmpi .sge (broadcastInDim (shape2 500000 1) ![0] h (select (cmpi .slt v z) (addi v nv) v)) lo)
          (cmpi .sle (broadcastInDim (shape2 500000 1) ![0] h (select (cmpi .slt v z) (addi v nv) v)) up))
        (constantI shape0 1 1#1) reducesTo_S500000x1_S500000_d1 hu))
      (Host.gather gather_S2x2_S500000x1_S500000x2_1_0_n_n_0_1_12
        (shapeCast (shape2 2 2) (extractStridedSlice (shape3 1 2 2) ![k, 0, 0] (V0 (Proc.devRef .tc main_arg8) : FVec Ideal (shape3 18 2 2) .f32) hs') hc')
        (broadcastInDim (shape2 500000 1) ![0] h (select (cmpi .slt v z) (addi v nv) v))) nan (ix2 r e) = flag V0 i r e := by
  subst hv
  refine (take_at (by norm_num) _ _ _ _ _ (flag_index V0 H k i hi hs hc) hz _ _ _ hlo hup _ _ _ rfl _ _ rfl rfl rfl rfl rfl _ r e).trans ?_
  exact slab_at k _ hs' hc' _ e i hi

/-- The first sixteen flags, joined. -/
theorem flags_low (i : Fin 16) (r : Fin 500000) (e : Fin 2) (c : Fin 32) (hc : 2 * i.val + e.val = c.val) :
    res_main_v143 V0 (ix2 r c) = flag V0 ⟨i.val, by omega⟩ r e := by
  refine pieces_at _ _ (fun (i : Fin 16) r e => flag V0 ⟨i.val, by omega⟩ r e) rfl (fun i => ?_) i r e c hc
  fin_cases i <;>
  exact ⟨_, rfl, fun r e => flag_piece V0 H _ _ (by rfl) _ _ _ _ _ _ _ _ _ (fun _ => rfl) (fun _ => rfl) (fun _ => rfl) _ _ _ _ (by rfl) r e⟩

/-- Columns 28 to 31: the thirty-six flags against a row of weights, and the bias. -/
theorem flags (r : Fin 500000) (j : Fin 4) (c : Fin 64) (hc : 28 + j.val = c.val) :
    res_main_v204 V0 (ix2 r c) = ∑ k : Fin 36, flag V0 ⟨k.val / 2, by omega⟩ r ⟨k.val % 2, by omega⟩
        * (V0 (Proc.devRef .tc main_arg14) : FVec Ideal (shape2 4 36) .f32) (ix2 j k)
      + (V0 (Proc.devRef .tc main_arg15) : FVec Ideal (shape1 4) .f32) (ix1 j) := by
  refine (piece_at _ _ 7 (by show 7 < 14; decide) _ rfl 28 rfl r j c hc).trans ?_
  refine congrArg₂ (· + ·) ((flags_dot _ _ r j).trans (Finset.sum_congr rfl fun k _ => congrArg (· * _) ?_)) (bcCols _ _ _ r j)
  by_cases hk : k.val < 32
  · refine (piece_at _ _ 0 (by show 0 < 2; decide) _ rfl 0 rfl r ⟨k.val, hk⟩ k (by simp)).trans ?_
    exact flags_low V0 H ⟨k.val / 2, by omega⟩ r ⟨k.val % 2, by omega⟩ _ (by show 2 * (k.val / 2) + k.val % 2 = k.val; omega)
  · refine (piece_at _ _ 1 (by show 1 < 2; decide) _ rfl 32 rfl r (⟨k.val - 32, by omega⟩ : Fin 4) k (by show 32 + (k.val - 32) = k.val; omega)).trans ?_
    refine (pieces_at (w := 2) _ _ (fun (i : Fin 2) r e => flag V0 ⟨16 + i.val, by omega⟩ r e) rfl (fun i => ?_)
      ⟨(k.val - 32) / 2, by omega⟩ r ⟨(k.val - 32) % 2, by omega⟩ _
      (by show 2 * ((k.val - 32) / 2) + (k.val - 32) % 2 = k.val - 32; omega)).trans ?_
    · fin_cases i <;>
      exact ⟨_, rfl, fun r e => flag_piece V0 H _ _ (by rfl) _ _ _ _ _ _ _ _ _ (fun _ => rfl) (fun _ => rfl) (fun _ => rfl) _ _ _ _ (by rfl) r e⟩
    · have e1 : 16 + (k.val - 32) / 2 = k.val / 2 := by omega
      have e2 : (k.val - 32) % 2 = k.val % 2 := by omega
      simp only [e1, e2]

omit H in
/-- Columns 48 to 63: the last forty-eight features against a row of weights, and the bias. -/
theorem bonds (r : Fin 500000) (j : Fin 16) (c : Fin 64) (hc : 48 + j.val = c.val) :
    res_main_v204 V0 (ix2 r c) = ∑ k : Fin 48, feat V0 (ix2 r ⟨30 + k.val, by omega⟩)
        * (V0 (Proc.devRef .tc main_arg16) : FVec Ideal (shape2 16 48) .f32) (ix2 j k)
      + (V0 (Proc.devRef .tc main_arg17) : FVec Ideal (shape1 16) .f32) (ix1 j) := by
  refine (piece_at _ _ 13 (by show 13 < 14; decide) _ rfl 48 rfl r j c hc).trans ?_
  refine congrArg₂ (· + ·) ((bonds_dot _ _ r j).trans (Finset.sum_congr rfl fun k _ => congrArg (· * _) ?_)) (bcCols _ _ _ r j)
  exact block_at 0 30 (feat V0) _ r k r _ (by simp) rfl

end Cert.Atoms.Ref
-- ==== Proof.Agree.lean ====
/-
  The kernel's entries are the reference's: column by column, on the same arguments.
-/
module

public import proofs.«01_k».proof.Proof.KernelValue
public import proofs.«01_k».proof.Proof.Precondition
public import proofs.«01_k».proof.Proof.Reference

@[expose] public section

noncomputable section

namespace Cert.Atoms

open Idealize.ShloMosaic Idealize.ShloMosaic.Routing Idealize.ShloMosaic.ValueIdx

/-- Equal tables at equal rows. -/
theorem same_row {n w : Nat} (t t' : FVec Ideal (shape2 n w) .f32) (e : t' = t) (p p' : Fin n) (ep : p'.val = p.val) (j : Fin w) :
    t (ix2 p j) = t' (ix2 p' j) := by
  subst e
  exact congrArg (fun p => t' (ix2 p j)) (Fin.ext ep.symm)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- What the reference holds at the launch. -/
abbrev given : Valuation Cert.ReferenceIdeal.τ Cert.ReferenceIdeal.sig (Elt Ideal) := fun b => m' (c, b)

/-- An argument of the reference. -/
abbrev arg' (b : Ref Cert.ReferenceIdeal.sig .tc) : Buf (Elt Ideal) ((c.tc : Thread Cert.ReferenceIdeal.nD Cert.ReferenceIdeal.τ).loc b) :=
  m' ((c.tc : Thread Cert.ReferenceIdeal.nD Cert.ReferenceIdeal.τ).loc b)

/-- The two programs hold the same arguments. -/
structure Same : Prop where
  a0 : (arg' m' c Cert.ReferenceIdeal.main_arg0 : FVec Ideal (shape2 500000 78) .f32) = arg m c Cert.KernelIdeal.main_arg0
  a1 : (arg' m' c Cert.ReferenceIdeal.main_arg1 : FVec Ideal (shape2 7 4) .f32) = arg m c Cert.KernelIdeal.main_arg1
  a2 : (arg' m' c Cert.ReferenceIdeal.main_arg2 : FVec Ideal (shape2 7 4) .f32) = arg m c Cert.KernelIdeal.main_arg2
  a3 : (arg' m' c Cert.ReferenceIdeal.main_arg3 : FVec Ideal (shape2 2 4) .f32) = arg m c Cert.KernelIdeal.main_arg3
  a4 : (arg' m' c Cert.ReferenceIdeal.main_arg4 : FVec Ideal (shape2 8 4) .f32) = arg m c Cert.KernelIdeal.main_arg4
  a5 : (arg' m' c Cert.ReferenceIdeal.main_arg5 : FVec Ideal (shape2 2 4) .f32) = arg m c Cert.KernelIdeal.main_arg5
  a6 : (arg' m' c Cert.ReferenceIdeal.main_arg6 : FVec Ideal (shape2 6 4) .f32) = arg m c Cert.KernelIdeal.main_arg6
  a7 : (arg' m' c Cert.ReferenceIdeal.main_arg7 : FVec Ideal (shape2 5 4) .f32) = arg m c Cert.KernelIdeal.main_arg7
  a8 : (arg' m' c Cert.ReferenceIdeal.main_arg8 : FVec Ideal (shape3 18 2 2) .f32) = arg m c Cert.KernelIdeal.main_arg8
  a9 : (arg' m' c Cert.ReferenceIdeal.main_arg9 : FVec Ideal (shape2 2 2) .f32) = arg m c Cert.KernelIdeal.main_arg9
  a10 : (arg' m' c Cert.ReferenceIdeal.main_arg10 : FVec Ideal (shape2 2 2) .f32) = arg m c Cert.KernelIdeal.main_arg10
  a11 : (arg' m' c Cert.ReferenceIdeal.main_arg11 : FVec Ideal (shape2 7 4) .f32) = arg m c Cert.KernelIdeal.main_arg11
  a12 : (arg' m' c Cert.ReferenceIdeal.main_arg12 : FVec Ideal (shape2 5 4) .f32) = arg m c Cert.KernelIdeal.main_arg12
  a13 : (arg' m' c Cert.ReferenceIdeal.main_arg13 : FVec Ideal (shape2 8 4) .f32) = arg m c Cert.KernelIdeal.main_arg13
  a14 : (arg' m' c Cert.ReferenceIdeal.main_arg14 : FVec Ideal (shape2 4 36) .f32) = arg m c Cert.KernelIdeal.main_arg14
  a15 : (arg' m' c Cert.ReferenceIdeal.main_arg15 : FVec Ideal (shape1 4) .f32) = arg m c Cert.KernelIdeal.main_arg15
  a16 : (arg' m' c Cert.ReferenceIdeal.main_arg16 : FVec Ideal (shape2 16 48) .f32) = arg m c Cert.KernelIdeal.main_arg16
  a17 : (arg' m' c Cert.ReferenceIdeal.main_arg17 : FVec Ideal (shape1 16) .f32) = arg m c Cert.KernelIdeal.main_arg17

/-- Every entry of the reference's result is the kernel's. -/
theorem same_entry (h : Cert.Pre_KernelIdeal_binary_features m) (S : Same m m' c) (r : Fin 500000) (q : Fin 64) :
    Ker.entry (Ker.atLaunch m c) (fun k => atoms m c (ix2 r k)) q = Cert.ReferenceIdeal.Value.res_main_v204 (given m' c) (ix2 r q) := by
  have T := tame m c h
  have hx : ∀ k : Fin 78, k.val < 30 → atoms m c (ix2 r k) = 0 ∨ atoms m c (ix2 r k) = 1 := features_binary m c h r
  have hf : ∀ k : Fin 78, Ref.feat (given m' c) (ix2 r k) = atoms m c (ix2 r k) := fun k => congrFun S.a0 (ix2 r k)
  have hb : ∀ k : Fin 78, bit (Ref.feat (given m' c) (ix2 r k)) = bit (atoms m c (ix2 r k)) := fun k => congrArg bit (hf k)
  have H : Ref.Binary (given m' c) := fun r k hk => by
    have e : Ref.feat (given m' c) (ix2 r k) = atoms m c (ix2 r k) := congrFun S.a0 (ix2 r k)
    rw [e]
    exact features_binary m c h r k hk
  obtain ⟨degree, charge, aromatic, hybrid, hydrogen, ringsize, aromaNum, fused⟩ := Ker.fours (Ker.atLaunch m c)
  obtain ⟨donor, acceptor⟩ := Ker.twos (Ker.atLaunch m c)
  have hq := q.isLt
  have cases : q.val < 4 ∨ (4 ≤ q.val ∧ q.val < 8) ∨ (8 ≤ q.val ∧ q.val < 12) ∨ (12 ≤ q.val ∧ q.val < 16) ∨ (16 ≤ q.val ∧ q.val < 20)
      ∨ (20 ≤ q.val ∧ q.val < 24) ∨ (24 ≤ q.val ∧ q.val < 28) ∨ (28 ≤ q.val ∧ q.val < 32) ∨ (32 ≤ q.val ∧ q.val < 34)
      ∨ (34 ≤ q.val ∧ q.val < 36) ∨ (36 ≤ q.val ∧ q.val < 40) ∨ (40 ≤ q.val ∧ q.val < 44) ∨ (44 ≤ q.val ∧ q.val < 48) ∨ 48 ≤ q.val := by omega
  have split : ∀ lo n : Nat, lo ≤ q.val → q.val < lo + n → ∃ j : Fin n, q.val = lo + j.val := fun lo n h1 h2 =>
    ⟨⟨q.val - lo, by omega⟩, by show q.val = lo + (q.val - lo); omega⟩
  rcases cases with hq | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩
    | ⟨h1, h2⟩ | h1
  · obtain ⟨j, hj⟩ := split 0 4 (by omega) (by omega)
    exact (Ker.entry_element _ _ j q hj).trans ((same_row _ _ S.a1 0 0 rfl j).trans (Ref.element _ H r j q hj.symm).symm)
  · obtain ⟨j, hj⟩ := split 4 4 h1 h2
    exact (Ker.entry_four _ _ degree 1 rfl 0 1 (row 7 (by norm_num) _) rfl rfl (one_mul _).symm j q hj (T.degree j) (hx 1 (by decide))).trans
      ((same_row _ _ S.a2 _ _ (hb 1) j).trans (Ref.degree _ H r j q hj.symm).symm)
  · obtain ⟨j, hj⟩ := split 8 4 h1 h2
    exact (Ker.entry_ring _ _ j q hj).trans ((same_row _ _ S.a3 1 1 rfl j).trans (Ref.ring _ H r j q hj.symm).symm)
  · obtain ⟨j, hj⟩ := split 12 4 h1 h2
    exact (Ker.entry_four _ _ charge 2 rfl 0 1 (row 8 (by norm_num) _) rfl rfl (one_mul _).symm j q hj (T.charge j) (hx 2 (by decide))).trans
      ((same_row _ _ S.a4 _ _ (hb 2) j).trans (Ref.charge _ H r j q hj.symm).symm)
  · obtain ⟨j, hj⟩ := split 16 4 h1 h2
    exact (Ker.entry_four _ _ aromatic 4 rfl 0 1 (row 2 (by norm_num) _) rfl rfl (one_mul _).symm j q hj (T.aromatic j) (hx 4 (by decide))).trans
      ((same_row _ _ S.a5 _ _ (hb 4) j).trans (Ref.aromatic _ H r j q hj.symm).symm)
  · obtain ⟨j, hj⟩ := split 20 4 h1 h2
    exact (Ker.entry_four _ _ hybrid 3 rfl 0 1 (row 6 (by norm_num) _) rfl rfl (one_mul _).symm j q hj (T.hybrid j) (hx 3 (by decide))).trans
      ((same_row _ _ S.a6 _ _ (hb 3) j).trans (Ref.hybrid _ H r j q hj.symm).symm)
  · obtain ⟨j, hj⟩ := split 24 4 h1 h2
    exact (Ker.entry_four _ _ hydrogen 6 rfl 0 1 (row 5 (by norm_num) _) rfl rfl (one_mul _).symm j q hj (T.hydrogen j) (hx 6 (by decide))).trans
      ((same_row _ _ S.a7 _ _ (hb 6) j).trans (Ref.hydrogen _ H r j q hj.symm).symm)
  · obtain ⟨j, hj⟩ := split 28 4 h1 h2
    refine (Ker.entry_flags _ _ j q hj (fun i => hx ⟨7 + i.val, by omega⟩ (by show 7 + i.val < 30; omega)) T.flags (T.weights j)).trans
      (Eq.trans (congrArg₂ (fun x y : EReal => x + y) (Finset.sum_congr rfl fun k _ => congrArg₂ (fun x y : EReal => x * y) ?_
        (congrFun S.a14 (ix2 j k)).symm) (congrFun S.a15 (ix1 j)).symm) (Ref.flags _ H r j q hj.symm).symm)
    refine (congrFun S.a8 _).symm.trans (congrArg (fun p => (arg' m' c Cert.ReferenceIdeal.main_arg8 : FVec Ideal (shape3 18 2 2) .f32) (ix3 _ p _)) (Fin.ext ?_))
    exact (hb ⟨7 + k.val / 2, by omega⟩).symm
  · obtain ⟨j, hj⟩ := split 32 2 h1 h2
    exact (Ker.entry_two _ _ donor 25 rfl 0 1 (row 2 (by norm_num) _) rfl rfl (one_mul _).symm j q hj (T.donor j) (hx 25 (by decide))).trans
      ((same_row _ _ S.a9 _ _ (hb 25) j).trans (Ref.donor _ H r j q hj.symm).symm)
  · obtain ⟨j, hj⟩ := split 34 2 h1 h2
    exact (Ker.entry_two _ _ acceptor 26 rfl 0 1 (row 2 (by norm_num) _) rfl rfl (one_mul _).symm j q hj (T.acceptor j) (hx 26 (by decide))).trans
      ((same_row _ _ S.a10 _ _ (hb 26) j).trans (Ref.acceptor _ H r j q hj.symm).symm)
  · obtain ⟨j, hj⟩ := split 36 4 h1 h2
    have hle := bit_le (atoms m c (ix2 r 27))
    exact (Ker.entry_four _ _ ringsize 27 rfl 0 6 ⟨6 * bit (atoms m c (ix2 r 27)), by omega⟩ rfl rfl rfl j q hj (T.ringsize j) (hx 27 (by decide))).trans
      ((same_row _ _ S.a11 _ _ (congrArg (6 * ·) (hb 27)) j).trans (Ref.ringsize _ H r j q hj.symm).symm)
  · obtain ⟨j, hj⟩ := split 40 4 h1 h2
    exact (Ker.entry_four _ _ aromaNum 28 rfl 0 1 (row 5 (by norm_num) _) rfl rfl (one_mul _).symm j q hj (T.aromaNum j) (hx 28 (by decide))).trans
      ((same_row _ _ S.a12 _ _ (hb 28) j).trans (Ref.aromaNum _ H r j q hj.symm).symm)
  · obtain ⟨j, hj⟩ := split 44 4 h1 h2
    exact (Ker.entry_four _ _ fused 29 rfl 0 1 (row 8 (by norm_num) _) rfl rfl (one_mul _).symm j q hj (T.fused j) (hx 29 (by decide))).trans
      ((same_row _ _ S.a13 _ _ (hb 29) j).trans (Ref.fused _ H r j q hj.symm).symm)
  · obtain ⟨j, hj⟩ := split 48 16 h1 (by omega)
    exact (Ker.entry_bonds _ _ j q hj).trans (Eq.trans (congrArg₂ (fun x y : EReal => x + y) (Finset.sum_congr rfl fun k _ =>
      congrArg₂ (fun x y : EReal => x * y) (hf ⟨30 + k.val, by omega⟩).symm (congrFun S.a16 (ix2 j k)).symm) (congrFun S.a17 (ix1 j)).symm)
      (Ref.bonds _ r j q hj.symm).symm)

/-- The kernel's result array is the reference's. -/
theorem same_result (h : Cert.Pre_KernelIdeal_binary_features m) (S : Same m m' c) :
    (Cert.ReferenceIdeal.Value.res_main_v204 (given m' c) : FVec Ideal (shape2 500000 64) .f32) = Ker.result m c := by
  funext i
  rw [eq_ix2 i]
  exact (same_entry m m' c h S (i 0) (i 1)).symm

end Cert.Atoms
-- ==== Proof.lean ====
/-
  The proof of `Cert.Claim`: the frames of the three programs, that the idealized kernel keeps the kernel's meaning, and that
  the idealized kernel's result is the idealized reference's.
-/
module

public import proofs.«01_k».proof.Defs
public import proofs.«01_k».proof.Proof.Gen.Kernel.Frame
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem

/-- The reference ends, leaves its arguments as they were and its semaphores at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result is the reference's, on arguments that meet the precondition. -/
theorem agree : Cert.algebraic_KernelIdeal_ReferenceIdeal_pre_binary_features := by
  intro m g m' g' hpre hagree
  have S : ∀ c, Cert.Atoms.Same m m' c := fun c => by
    obtain ⟨h0, h1, h2, h3, h4, h5, h6, h7, h8, h9, h10, h11, h12, h13, h14, h15, h16, h17⟩ := hagree c
    exact ⟨h0, h1, h2, h3, h4, h5, h6, h7, h8, h9, h10, h11, h12, h13, h14, h15, h16, h17⟩
  refine ⟨fun c => Cert.Atoms.Ker.result m c, ?_, ?_⟩
  · exact (θ_run Cert.KernelIdeal.defs _ _).mono (fun r h c => ⟨(h c).1.trans (Cert.Atoms.Ker.final m c), (h c).2⟩)
      (Cert.KernelIdeal.Value.run_blocks (F := Ideal) m g)
  · exact (θ_run Cert.ReferenceIdeal.defs _ _).mono
      (fun r h c => ⟨(h c).1.trans (Cert.Atoms.same_result m m' c hpre (S c)), (h c).2⟩)
      (Cert.ReferenceIdeal.Value.run (F := Ideal) m' g')

/-- Everything claimed. -/
theorem claim : Cert.Claim :=
  ⟨Cert.Kernel.Gen.facts, Cert.KernelIdeal.Gen.facts, Cert.ReferenceIdeal.Gen.facts, Cert.Atoms.stated,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, agree⟩

end Cert.Proof

end
